-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_bf16_range [hPre_in_bf16_range : Cert.Pre_in_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_bf16_range [hPre_in_bf16_range : Cert.Pre_in_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_bf16_range [hKernelIdeal : Cert.KernelIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_bf16_range [hReferenceIdeal : Cert.ReferenceIdeal.Facts] [hPre_in_bf16_range : Cert.Pre_in_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_bf16_range [hKernelIdeal : Cert.KernelIdeal.Facts] [hReferenceIdeal : Cert.ReferenceIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_bf16_range : Cert.Pre_in_bf16_range.Facts),
    quiescent_Kernel (hKernel := hKernel)
    ∧ quiescent_KernelIdeal (hKernelIdeal := hKernelIdeal)
    ∧ quiescent_KernelIdeal_pre_in_bf16_range (hKernelIdeal := hKernelIdeal) (hPre_in_bf16_range := hPre_in_bf16_range)
    ∧ quiescent_ReferenceIdeal (hReferenceIdeal := hReferenceIdeal)
    ∧ quiescent_ReferenceIdeal_pre_in_bf16_range (hReferenceIdeal := hReferenceIdeal) (hPre_in_bf16_range := hPre_in_bf16_range)
    ∧ preserves_Kernel_KernelIdeal
    ∧ algebraic_KernelIdeal_ReferenceIdeal_pre_in_bf16_range (hKernelIdeal := hKernelIdeal) (hReferenceIdeal := hReferenceIdeal) (hPre_in_bf16_range := hPre_in_bf16_range)
-- ==== Pre_in_bf16_range.lean ====
abbrev S4x256x1152 : Shape := ⟨3, ![4, 256, 1152]⟩
abbrev S20224x1152 : Shape := ⟨2, ![20224, 1152]⟩
abbrev S20224x36 : Shape := ⟨2, ![20224, 36]⟩
abbrev S_ : Shape := ⟨0, ![]⟩

class Facts : Prop where
  bitsLt_bf16_f32 : FTy.bits .bf16 < FTy.bits .f32
  bcast_S_S4x256x1152 : S_.BroadcastsInDim S4x256x1152 (![] : Fin 0 → Fin S4x256x1152.rank)

variable [Facts]

def fn {F : FTy → Type} [FloatOps F] (main_arg0 : FVec F S4x256x1152 .bf16) (main_arg1 : FVec F S20224x1152 .fp8e4m3) (main_arg2 : IVec S20224x36 8) (main_arg3 : FVec F S20224x1152 .fp8e4m3) (main_arg4 : IVec S20224x36 8) : IVec S4x256x1152 1 :=
  let main_v0 : FVec F S4x256x1152 .f32 := (extf .f32 · bitsLt_bf16_f32) main_arg0
  let main_v1 : FVec F S4x256x1152 .f32 := Host.absf main_v0
  let main_cst : FVec F S_ .f32 := constant S_ .f32 0x7F7F0000#32
  let main_v2 : FVec F S4x256x1152 .f32 := broadcastInDim S4x256x1152 ![] bcast_S_S4x256x1152 main_cst
  let main_v3 : IVec S4x256x1152 1 := cmpf .ole main_v1 main_v2
  main_v3
-- ==== Kernel.lean ====
abbrev S4x256x1152 : Shape := ⟨3, ![4, 256, 1152]⟩
abbrev S20224x1152 : Shape := ⟨2, ![20224, 1152]⟩
abbrev S20224x36 : Shape := ⟨2, ![20224, 36]⟩
abbrev S1024x1152 : Shape := ⟨2, ![1024, 1152]⟩
abbrev S1024x20224 : Shape := ⟨2, ![1024, 20224]⟩
abbrev S1024x1 : Shape := ⟨2, ![1024, 1]⟩
abbrev S256x1152 : Shape := ⟨2, ![256, 1152]⟩
abbrev S256x36 : Shape := ⟨2, ![256, 36]⟩
abbrev S1024x256 : Shape := ⟨2, ![1024, 256]⟩
abbrev S1024x128 : Shape := ⟨2, ![1024, 128]⟩
abbrev S1024 : Shape := ⟨1, ![1024]⟩
abbrev S1x255 : Shape := ⟨2, ![1, 255]⟩
abbrev S1024x255 : Shape := ⟨2, ![1024, 255]⟩
abbrev S256x92 : Shape := ⟨2, ![256, 92]⟩
abbrev S256x128 : Shape := ⟨2, ![256, 128]⟩
abbrev S256x128x1 : Shape := ⟨3, ![256, 128, 1]⟩

abbrev nBuf : Space → Nat
  | .hbm => 9
  | .vmem => 15
  | .smem => 0
  | _ => 0

abbrev bufTy : (tb : Table) → Fin (tcTables nBuf tb) → BufTy
  | .hbm, ⟨0, _⟩ => ⟨S4x256x1152, .bf16⟩
  | .hbm, ⟨1, _⟩ => ⟨S20224x1152, .fp8e4m3⟩
  | .hbm, ⟨2, _⟩ => ⟨S20224x36, .i8⟩
  | .hbm, ⟨3, _⟩ => ⟨S20224x1152, .fp8e4m3⟩
  | .hbm, ⟨4, _⟩ => ⟨S20224x36, .i8⟩
  | .hbm, ⟨5, _⟩ => ⟨S1024x1152, .bf16⟩
  | .hbm, ⟨6, _⟩ => ⟨S1024x20224, .bf16⟩
  | .hbm, ⟨7, _⟩ => ⟨S1024x1152, .fp8e4m3⟩
  | .hbm, ⟨8, _⟩ => ⟨S1024x1, .f32⟩
  | .local _ .vmem, ⟨0, _⟩ => ⟨S1024x1152, .bf16⟩
  | .local _ .vmem, ⟨1, _⟩ => ⟨S256x1152, .fp8e4m3⟩
  | .local _ .vmem, ⟨2, _⟩ => ⟨S256x1152, .fp8e4m3⟩
  | .local _ .vmem, ⟨3, _⟩ => ⟨S256x36, .i8⟩
  | .local _ .vmem, ⟨4, _⟩ => ⟨S256x36, .i8⟩
  | .local _ .vmem, ⟨5, _⟩ => ⟨S256x1152, .fp8e4m3⟩
  | .local _ .vmem, ⟨6, _⟩ => ⟨S256x1152, .fp8e4m3⟩
  | .local _ .vmem, ⟨7, _⟩ => ⟨S256x36, .i8⟩
  | .local _ .vmem, ⟨8, _⟩ => ⟨S256x36, .i8⟩
  | .local _ .vmem, ⟨9, _⟩ => ⟨S1024x256, .bf16⟩
  | .local _ .vmem, ⟨10, _⟩ => ⟨S1024x256, .bf16⟩
  | .local _ .vmem, ⟨11, _⟩ => ⟨S1024x1152, .fp8e4m3⟩
  | .local _ .vmem, ⟨12, _⟩ => ⟨S1024x1, .f32⟩
  | .local _ .vmem, ⟨13, _⟩ => ⟨S1024x1152, .bf16⟩
  | .local _ .vmem, ⟨14, _⟩ => ⟨S1024x128, .f32⟩
  | _, _ => ⟨S4x256x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![79], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1152 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x36 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x36 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1152 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x256x1152 : Shape := ⟨3, ![4, 256, 1152]⟩
abbrev S20224x1152 : Shape := ⟨2, ![20224, 1152]⟩
abbrev S20224x36 : Shape := ⟨2, ![20224, 36]⟩
abbrev S1024x1152 : Shape := ⟨2, ![1024, 1152]⟩
abbrev S1024x20224 : Shape := ⟨2, ![1024, 20224]⟩
abbrev S1024x1 : Shape := ⟨2, ![1024, 1]⟩
abbrev S1024 : Shape := ⟨1, ![1024]⟩
abbrev S20224x36x32 : Shape := ⟨3, ![20224, 36, 32]⟩
abbrev S20224x36x1 : Shape := ⟨3, ![20224, 36, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x256x1152, .bf16⟩
  | .hbm, ⟨1, _⟩ => ⟨S20224x1152, .fp8e4m3⟩
  | .hbm, ⟨2, _⟩ => ⟨S20224x36, .i8⟩
  | .hbm, ⟨3, _⟩ => ⟨S20224x1152, .fp8e4m3⟩
  | .hbm, ⟨4, _⟩ => ⟨S20224x36, .i8⟩
  | .hbm, ⟨5, _⟩ => ⟨S1024x1152, .bf16⟩
  | .hbm, ⟨6, _⟩ => ⟨S1024x20224, .bf16⟩
  | .hbm, ⟨7, _⟩ => ⟨S1024x1152, .fp8e4m3⟩
  | .hbm, ⟨8, _⟩ => ⟨S1024x1, .f32⟩
  | .local _ .vmem, ⟨0, _⟩ => ⟨S1024x1152, .bf16⟩
  | .local _ .vmem, ⟨1, _⟩ => ⟨S20224x1152, .fp8e4m3⟩
  | .local _ .vmem, ⟨2, _⟩ => ⟨S20224x36, .i8⟩
  | .local _ .vmem, ⟨3, _⟩ => ⟨S20224x1152, .fp8e4m3⟩
  | .local _ .vmem, ⟨4, _⟩ => ⟨S20224x36, .i8⟩
  | .local _ .vmem, ⟨5, _⟩ => ⟨S1024x20224, .bf16⟩
  | .local _ .vmem, ⟨6, _⟩ => ⟨S1024x1152, .fp8e4m3⟩
  | .local _ .vmem, ⟨7, _⟩ => ⟨S1024x1, .f32⟩
  | _, _ => ⟨S4x256x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20224x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20224x36 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20224x1152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20224x36 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x20224 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1152 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.RunFacts.lean ====
/-
What the two cases of the kernel's body share: its branch condition over the grid points, the buffers it is called
with, and names for the values it computes.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition under which the body quantises the tokens: the grid coordinate is zero. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 79 = 0 :=
  (fun t => by
    have ht : t.val < 79 := Nat.lt_of_lt_of_eq t.isLt N_0
    have e0 : (grid0.coords t 0).val = t.val / 1 % 79 := Pipeline.Grid.coords_val t 0 (by decide) rfl
    simp only [cond0_0, e0]
    word_cmp
   : ∀ t : Fin grid0.N, cond0_0 (grid0.coords t) ↔ t.val % 79 = 0)

/-! ## The buffers the body is called with -/

/-- Each window's current staging memref at point `t`, spelled as the pipeline passes it (`bodyAt0`), and its wholeness. -/
abbrev ms0_0 (t : Fin cfg0.N) : Memref sig .tc .vmem S1024x1152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1152 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x36 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1152 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x36 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1152 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x1152 .bf16 := Memref.whole cc0_scratch0
abbrev scM0_1 : Memref sig .tc .vmem S1024x128 .f32 := Memref.whole cc0_scratch1
/-- What the launch hands the region besides the windows: the two scratch buffers at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body computes -/

/-- The bound of the e4m3 range, `448.0`, as the kernel spells it. -/
abbrev c448 : F .f32 := Scalar.ofBits .f32 0x43E00000#32

/-- The quantised codes of the token block `x`. -/
def codesOf (x : Vec F S1024x1152 .bf16) : FVec F S1024x1152 .fp8e4m3 := k0_pay6 c448 (k0_pay5 x)

/-- The per-token scales of the token block `x`. -/
def scaleOf (x : Vec F S1024x1152 .bf16) : FVec F S1024x1 .f32 := k0_pay4 x

/-- The codes as the first point keeps them for all points (first scratch buffer). -/
def xqOf (x : Vec F S1024x1152 .bf16) : FVec F S1024x1152 .bf16 := k0_pay7 c448 (k0_pay5 x)

/-- The scales, one per lane, as the first point keeps them for all points (second scratch buffer). -/
def xsOf (x : Vec F S1024x1152 .bf16) : FVec F S1024x128 .f32 := k0_pay8 (k0_pay4 x)

/-- The gate weight block the kernel decodes from the codes `w` and the scale exponents `s`. -/
def gateOf (w : Vec F S256x1152 .fp8e4m3) (s : Vec F S256x36 .i8) : FVec F S256x1152 .bf16 :=
  k0_pay25 w (k0_pay9 s) k0_pay10 (k0_pay13 w (k0_pay9 s) k0_pay11 k0_pay12 128#32) (k0_pay14 w (k0_pay9 s) k0_pay10)
    (k0_pay15 w (k0_pay9 s) k0_pay10) (k0_pay18 (k0_pay16 (k0_pay9 s) k0_pay10) (k0_pay17 w)) (k0_pay19 w (k0_pay9 s) k0_pay10)
    (k0_pay20 w (k0_pay9 s) k0_pay10) (k0_pay21 w (k0_pay9 s) k0_pay10) (k0_pay22 k0_pay10) (k0_pay23 k0_pay10) k0_pay24

/-- The lane's block number, as the second decoding spells it. -/
def upBlocks : IVec S256x128 32 :=
  k0_pay29 (iota .tc S256x128 32 [1] iota_S256x128_d1_w32) 32#32 k0_pay27 k0_pay28 (Scalar.extui (Scalar.cmpi .sgt 32#32 0#32))
    (Scalar.extui (Scalar.cmpi .slt 32#32 0#32))

/-- The product with the up weight block, scaled by token: the weight is decoded from the codes `w` and the scale exponents `s`. -/
def upOf (w : Vec F S256x1152 .fp8e4m3) (s : Vec F S256x36 .i8) (xq : Vec F S1024x1152 .bf16) (xs : Vec F S1024x128 .f32) : FVec F S1024x256 .f32 :=
  k0_pay41 w (k0_pay26 s) upBlocks
    (k0_pay30 w (k0_pay26 s) (iota .tc S256x128 32 [1] iota_S256x128_d1_w32) 32#32 k0_pay27 k0_pay28 (Scalar.extui (Scalar.cmpi .sgt 32#32 0#32)) (Scalar.extui (Scalar.cmpi .slt 32#32 0#32)))
    (k0_pay31 w (k0_pay26 s) (iota .tc S256x128 32 [1] iota_S256x128_d1_w32) 32#32 k0_pay27 k0_pay28 (Scalar.extui (Scalar.cmpi .sgt 32#32 0#32)) (Scalar.extui (Scalar.cmpi .slt 32#32 0#32)))
    (k0_pay33 w (k0_pay32 (k0_pay26 s) (iota .tc S256x128 32 [1] iota_S256x128_d1_w32) 32#32 k0_pay27 k0_pay28 (Scalar.extui (Scalar.cmpi .sgt 32#32 0#32)) (Scalar.extui (Scalar.cmpi .slt 32#32 0#32))))
    (k0_pay34 w (k0_pay26 s) upBlocks) (k0_pay35 w (k0_pay26 s) upBlocks) (k0_pay36 w (k0_pay26 s) upBlocks) (k0_pay37 upBlocks) k0_pay38 xq xs

/-- The block of the result the body stores: from the two weight blocks and the kept codes and scales. -/
def yOf (w1 : Vec F S256x1152 .fp8e4m3) (s1 : Vec F S256x36 .i8) (w2 : Vec F S256x1152 .fp8e4m3) (s2 : Vec F S256x36 .i8)
    (xq : Vec F S1024x1152 .bf16) (xs : Vec F S1024x128 .f32) : FVec F S1024x256 .bf16 :=
  k0_pay1 (k0_pay40 (gateOf w1 s1) xq xs) (upOf w2 s2 xq xs)

/-! ## Whole loads -/

/-- A load of the whole `1024 × 1152` buffer reads its contents. -/
theorem load_1024x1152 {e : EltTy} {M : Memref sig .tc .vmem S1024x1152 e} (h : M.IsWhole) (x : S1024x1152.Idx → Elt F e) :
    View.readAt (Elt F) M.view (Rect.unit ![0, 0] ![1024, 1152] inb_S1024x1152_S1024x1152_0_0).toLoadRect (h.unread x) = x :=
  (View.readAt_full M.view (h.unread x) inb_S1024x1152_S1024x1152_0_0).trans (h.read_unread x)

/-- A load of the whole `256 × 1152` buffer reads its contents. -/
theorem load_256x1152 {e : EltTy} {M : Memref sig .tc .vmem S256x1152 e} (h : M.IsWhole) (x : S256x1152.Idx → Elt F e) :
    View.readAt (Elt F) M.view (Rect.unit ![0, 0] ![256, 1152] inb_S256x1152_S256x1152_0_0).toLoadRect (h.unread x) = x :=
  (View.readAt_full M.view (h.unread x) inb_S256x1152_S256x1152_0_0).trans (h.read_unread x)

/-- A load of the whole `256 × 36` buffer reads its contents. -/
theorem load_256x36 {e : EltTy} {M : Memref sig .tc .vmem S256x36 e} (h : M.IsWhole) (x : S256x36.Idx → Elt F e) :
    View.readAt (Elt F) M.view (Rect.unit ![0, 0] ![256, 36] inb_S256x36_S256x36_0_0).toLoadRect (h.unread x) = x :=
  (View.readAt_full M.view (h.unread x) inb_S256x36_S256x36_0_0).trans (h.read_unread x)

/-- A load of the whole `1024 × 128` buffer reads its contents. -/
theorem load_1024x128 {e : EltTy} {M : Memref sig .tc .vmem S1024x128 e} (h : M.IsWhole) (x : S1024x128.Idx → Elt F e) :
    View.readAt (Elt F) M.view (Rect.unit ![0, 0] ![1024, 128] inb_S1024x128_S1024x128_0_0).toLoadRect (h.unread x) = x :=
  (View.readAt_full M.view (h.unread x) inb_S1024x128_S1024x128_0_0).trans (h.read_unread x)

/-- A load of the whole `1024 × 1152` buffer after a store of all of it reads what was stored. -/
theorem load_stored_1024x1152 {e : EltTy} (v : View sig .tc .vmem S1024x1152 e) (w : S1024x1152.Idx → Elt F e) (L : List (View.Piece (Elt F) S1024x1152 e)) :
    v.readCov (⟨Rect.unit ![0, 0] ![1024, 1152] inb_S1024x1152_S1024x1152_0_0, w⟩ :: L) (Rect.unit ![0, 0] ![1024, 1152] inb_S1024x1152_S1024x1152_0_0).toLoadRect = w :=
  View.readCov_full v inb_S1024x1152_S1024x1152_0_0 inb_S1024x1152_S1024x1152_0_0 w L

/-- A load of the whole `1024 × 128` buffer after a store of all of it reads what was stored. -/
theorem load_stored_1024x128 {e : EltTy} (v : View sig .tc .vmem S1024x128 e) (w : S1024x128.Idx → Elt F e) (L : List (View.Piece (Elt F) S1024x128 e)) :
    v.readCov (⟨Rect.unit ![0, 0] ![1024, 128] inb_S1024x128_S1024x128_0_0, w⟩ :: L) (Rect.unit ![0, 0] ![1024, 128] inb_S1024x128_S1024x128_0_0).toLoadRect = w :=
  View.readCov_full v inb_S1024x128_S1024x128_0_0 inb_S1024x128_S1024x128_0_0 w L

end Cert.KernelIdeal.Run

end
-- ==== Proof.RunFirst.lean ====
/-
The kernel's body at the first grid point, where it quantises the tokens.
-/
module

public import proofs.«01_k».proof.Proof.RunFacts

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first grid point: on any staging buffers, the inputs at `x0` … `x4`, it leaves the result block, the codes
    and the scales of `x0` in the outputs' buffers and the codes and the scales in the two scratch buffers. -/
theorem body_first (c : Dev nD) (i : grid0.Coords) (arg1 : Memref sig .tc .vmem S1024x1152 .bf16) (harg1 : arg1.IsWhole) (arg2 : Memref sig .tc .vmem S256x1152 .fp8e4m3) (harg2 : arg2.IsWhole) (arg3 : Memref sig .tc .vmem S256x36 .i8) (harg3 : arg3.IsWhole) (arg4 : Memref sig .tc .vmem S256x1152 .fp8e4m3) (harg4 : arg4.IsWhole) (arg5 : Memref sig .tc .vmem S256x36 .i8) (harg5 : arg5.IsWhole) (arg6 : Memref sig .tc .vmem S1024x256 .bf16) (harg6 : arg6.IsWhole) (arg7 : Memref sig .tc .vmem S1024x1152 .fp8e4m3) (harg7 : arg7.IsWhole) (arg8 : Memref sig .tc .vmem S1024x1 .f32) (harg8 : arg8.IsWhole) (arg9 : Memref sig .tc .vmem S1024x1152 .bf16) (harg9 : arg9.IsWhole) (arg10 : Memref sig .tc .vmem S1024x128 .f32) (harg10 : arg10.IsWhole) (hc0 : cond0_0 i)
    (x0 : Vec F S1024x1152 .bf16) (x1 : Vec F S256x1152 .fp8e4m3) (x2 : Vec F S256x36 .i8) (x3 : Vec F S256x1152 .fp8e4m3) (x4 : Vec F S256x36 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yOf x1 x2 x3 x4 (xqOf x0) (xsOf x0)) ∗ owns (c : Thread nD τ) arg7 fullShare (codesOf x0) ∗ owns (c : Thread nD τ) arg8 fullShare (scaleOf x0) ∗ owns (c : Thread nD τ) arg9 fullShare (xqOf x0) ∗ owns (c : Thread nD τ) arg10 fullShare (xsOf x0)) -∗ K ⟨⟩))
      ⊢ wp frame (wpE (defs₀ (F := F)) Variants.none c none) E (cc0_mxfp8_glu i arg1 harg1 arg2 harg2 arg3 harg3 arg4 harg4 arg5 harg5 arg6 harg6 arg7 harg7 arg8 harg8 arg9 harg9 arg10 harg10) K := by
  simp only [cc0_mxfp8_glu_eq_skeleton]; unfold cc0_mxfp8_glu_skel
  simp only [k0_part2_eq_skeleton, k0_part1_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_run_names
    rw [View.read_writes_full]
    simp only [load_1024x1152, load_256x1152, load_256x36, load_1024x128, load_stored_1024x1152, load_stored_1024x128]
    rfl
  isplitl [H6]
  · iexists _; isplitr
    swap; · iexact H6
    ipureintro
    sl_unfold_run_names
    rw [View.read_writes_full]
    simp only [load_1024x1152, load_256x1152, load_256x36, load_1024x128, load_stored_1024x1152, load_stored_1024x128]
    rfl
  isplitl [H7]
  · iexists _; isplitr
    swap; · iexact H7
    ipureintro
    sl_unfold_run_names
    rw [View.read_writes_full]
    simp only [load_1024x1152, load_256x1152, load_256x36, load_1024x128, load_stored_1024x1152, load_stored_1024x128]
    rfl
  isplitl [HS0]
  · iexists _; isplitr
    swap; · iexact HS0
    ipureintro
    sl_unfold_run_names
    rw [View.read_writes_full]
    simp only [load_1024x1152, load_256x1152, load_256x36, load_1024x128, load_stored_1024x1152, load_stored_1024x128]
    rfl
  · iexists _; isplitr
    swap; · iexact HS1
    ipureintro
    sl_unfold_run_names
    rw [View.read_writes_full]
    simp only [load_1024x1152, load_256x1152, load_256x36, load_1024x128, load_stored_1024x1152, load_stored_1024x128]
    rfl

end Cert.KernelIdeal.Run

end
-- ==== Proof.RunLater.lean ====
/-
The kernel's body at the grid points after the first, where it reads the tokens' codes and scales back.
-/
module

public import proofs.«01_k».proof.Proof.RunFirst

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later grid point: on any staging buffers, the inputs at `x0` … `x4`, the two scratch buffers at `xq` and `xs`,
    it leaves the result block computed from those in the first output's buffer and everything else as it found it. -/
theorem body_later (c : Dev nD) (i : grid0.Coords) (arg1 : Memref sig .tc .vmem S1024x1152 .bf16) (harg1 : arg1.IsWhole) (arg2 : Memref sig .tc .vmem S256x1152 .fp8e4m3) (harg2 : arg2.IsWhole) (arg3 : Memref sig .tc .vmem S256x36 .i8) (harg3 : arg3.IsWhole) (arg4 : Memref sig .tc .vmem S256x1152 .fp8e4m3) (harg4 : arg4.IsWhole) (arg5 : Memref sig .tc .vmem S256x36 .i8) (harg5 : arg5.IsWhole) (arg6 : Memref sig .tc .vmem S1024x256 .bf16) (harg6 : arg6.IsWhole) (arg7 : Memref sig .tc .vmem S1024x1152 .fp8e4m3) (harg7 : arg7.IsWhole) (arg8 : Memref sig .tc .vmem S1024x1 .f32) (harg8 : arg8.IsWhole) (arg9 : Memref sig .tc .vmem S1024x1152 .bf16) (harg9 : arg9.IsWhole) (arg10 : Memref sig .tc .vmem S1024x128 .f32) (harg10 : arg10.IsWhole) (hc0 : ¬cond0_0 i)
    (x0 : Vec F S1024x1152 .bf16) (x1 : Vec F S256x1152 .fp8e4m3) (x2 : Vec F S256x36 .i8) (x3 : Vec F S256x1152 .fp8e4m3) (x4 : Vec F S256x36 .i8) (xq : Vec F S1024x1152 .bf16) (xs : Vec F S1024x128 .f32) (d6 : Vec F S1024x1152 .fp8e4m3) (d7 : Vec F S1024x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare d6 ∗ owns (c : Thread nD τ) arg8 fullShare d7 ∗ owns (c : Thread nD τ) arg9 fullShare xq ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yOf x1 x2 x3 x4 xq xs) ∗ owns (c : Thread nD τ) arg7 fullShare d6 ∗ owns (c : Thread nD τ) arg8 fullShare d7 ∗ owns (c : Thread nD τ) arg9 fullShare xq ∗ owns (c : Thread nD τ) arg10 fullShare xs) -∗ K ⟨⟩))
      ⊢ wp frame (wpE (defs₀ (F := F)) Variants.none c none) E (cc0_mxfp8_glu i arg1 harg1 arg2 harg2 arg3 harg3 arg4 harg4 arg5 harg5 arg6 harg6 arg7 harg7 arg8 harg8 arg9 harg9 arg10 harg10) K := by
  simp only [cc0_mxfp8_glu_eq_skeleton]; unfold cc0_mxfp8_glu_skel
  simp only [k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg9.eq_unread hfs0; obtain rfl := harg10.eq_unread hfs1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_run_names
    rw [View.read_writes_full]
    simp only [load_1024x1152, load_256x1152, load_256x36, load_1024x128, load_stored_1024x1152, load_stored_1024x128]
    rfl
  isplitl [H6]
  · iexists _; isplitr; · ipureintro; exact hf6
    iexact H6
  isplitl [H7]
  · iexists _; isplitr; · ipureintro; exact hf7
    iexact H7
  isplitl [HS0]
  · iexists _; isplitr; · ipureintro; exact harg9.read_unread _
    iexact HS0
  iexists _; isplitr; · ipureintro; exact harg10.read_unread _
  iexact HS1

end Cert.KernelIdeal.Run

end
-- ==== Proof.KernelRun.lean ====
/-
The whole run of the kernel: the pipeline's proof data, the obligation its body meets at every grid point, and the launch.
-/
module

public import proofs.«01_k».proof.Proof.RunLater
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def p0 : Fin cfg0.N := ⟨0, by decide⟩

/-- The whole token array, which every point's first window is: as the first point finds it. -/
abbrev xBlk (c : Dev nD) : Vec F S1024x1152 .bf16 := iblk m c 0 p0

/-- The result block of point `t`. -/
def yBlk (c : Dev nD) (t : Fin cfg0.N) : Vec F S1024x256 .bf16 :=
  yOf (iblk m c 1 t) (iblk m c 2 t) (iblk m c 3 t) (iblk m c 4 t) (xqOf (xBlk m c)) (xsOf (xBlk m c))

/-- What holds of the scratch buffers and the generator register before position `n`: before the first point they are at
    anything, afterwards the two scratch buffers hold the tokens' codes and scales. -/
def PhiS (c : Dev nD) : ℕ → sProp 𝕄
  | 0 => Pipeline.ΦA spec0 c
  | _ + 1 => iprop(iprop(owns (c : Thread nD τ) scM0_0 fullShare (xqOf (xBlk m c)) ∗ owns (c : Thread nD τ) scM0_1 fullShare (xsOf (xBlk m c))) ∗ (∃ r, prngReg c r))

theorem PhiS_pos (c : Dev nD) (n : ℕ) (hz : n ≠ 0) :
    PhiS m c n = iprop(iprop(owns (c : Thread nD τ) scM0_0 fullShare (xqOf (xBlk m c)) ∗ owns (c : Thread nD τ) scM0_1 fullShare (xsOf (xBlk m c))) ∗ (∃ r, prngReg c r)) := by
  cases n with
  | zero => exact absurd rfl hz
  | succ n => rfl

/-! ## The pipeline's proof data -/

/-- The proof data of the pipeline on core `c`: after the body at point `t` each input's buffer at its block, the first output's
    at the point's result block, the other two at the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yBlk m c t
    | ⟨6, _⟩ => codesOf (xBlk m c)
    | ⟨7, _⟩ => scaleOf (xBlk m c)
  Φ t := PhiS m c t.val
  q _ := fullShare
  owed _ := 0

/-- The proof data's arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yBlk m c t := by dsimp only [dats]
theorem after0_6 (c : Dev nD) (t : Fin cfg0.N) : (dats m 0 c).after 6 t = codesOf (xBlk m c) := by dsimp only [dats]
theorem after0_7 (c : Dev nD) (t : Fin cfg0.N) : (dats m 0 c).after 7 t = scaleOf (xBlk m c) := by dsimp only [dats]

/-! ## What the body finds -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem coord_val (t : Fin cfg0.N) : (grid0.coords t 0).val = t.val := by
  have ht : t.val < 79 := Nat.lt_of_lt_of_eq t.isLt N_0
  have e0 : (grid0.coords t 0).val = t.val / 1 % 79 := Pipeline.Grid.coords_val t 0 (by decide) rfl
  omega

/-- At the first point the body stores the codes. -/
theorem live6 (t : Fin cfg0.N) (h : t.val = 0) : cfg0.idle 6 (grid0.coords t) = false := by
  have h1 : cond0_0 (grid0.coords t) := (hcond0_0 t).mpr (by omega)
  show (!(k0_cond1 (grid0.coords t) == 1#1)) = false
  rw [show k0_cond1 (grid0.coords t) = 1#1 from h1]; rfl

/-- At a later point it stores none. -/
theorem idle6 (t : Fin cfg0.N) (h : t.val ≠ 0) : cfg0.idle 6 (grid0.coords t) = true := by
  have ht : t.val < 79 := Nat.lt_of_lt_of_eq t.isLt N_0
  have h1 : ¬cond0_0 (grid0.coords t) := fun hc => by have := (hcond0_0 t).mp hc; omega
  show (!(k0_cond1 (grid0.coords t) == 1#1)) = true
  rw [Bool.not_eq_true', beq_eq_false_iff_ne]; exact h1

/-- Before the last point the codes are not written back. -/
theorem noflush6 (t : Fin cfg0.N) (h : t.val ≠ 78) : (cfg0.win 6).flush t = false := by
  have ht : t.val < 79 := Nat.lt_of_lt_of_eq t.isLt N_0
  cases hf : (cfg0.win 6).flush t with
  | false => rfl
  | true => exact absurd ((flush0_6 t).mp hf) (by omega)

/-- At every point but the first the buffer of the codes holds them: the first point stored them, and no later point did anything. -/
theorem before0_6 (c : Dev nD) (n : ℕ) (hn : n + 1 < cfg0.N) (d) :
    (dats m 0 c).before 6 ⟨n + 1, hn⟩ d = codesOf (xBlk m c) := by
  have hN : cfg0.N = 79 := N_0
  induction n with
  | zero =>
    rw [(dats m 0 c).before_of_pos 6 ⟨0 + 1, hn⟩ (by simp) ((cfg0.win 6).fetch_out rfl _)]
    rw [noflush6 _ (by simp), if_neg Bool.false_ne_true]
    unfold Dat.left; rw [live6 _ (by simp)]
    dsimp only; unfold Dat.kept
    rw [Pipeline.fill_of_clip_none (cfg := cfg0) 6 _ (fun _ => rfl) d ((dats m 0 c).after 6 _), Window.fill_cut, after0_6]
  | succ n ih =>
    rw [(dats m 0 c).before_of_pos 6 ⟨n + 1 + 1, hn⟩ (by simp) ((cfg0.win 6).fetch_out rfl _)]
    rw [noflush6 _ (by simp; omega), if_neg Bool.false_ne_true]
    unfold Dat.left; rw [idle6 _ (by simp)]
    exact ih (by omega)

/-- So what the body must leave in that buffer is the codes, at every point. -/
theorem leaves6 (c : Dev nD) (t : Fin cfg0.N) :
    owns (c : Thread nD τ) (ms0_6 t) fullShare (codesOf (xBlk m c)) ⊢ ((dats m 0 c).leavesExact 6 t : sProp 𝕄) := by
  have ht : t.val < 79 := Nat.lt_of_lt_of_eq t.isLt N_0
  by_cases h0 : t.val = 0
  · unfold Dat.leavesExact; rw [live6 t h0]; dsimp only; rw [after0_6]
  · by_cases h1 : t.val = 78
    · unfold Dat.leavesExact; rw [idle6 t h0, (flush0_6 t).mpr (by omega)]; dsimp only; rw [after0_6]
    · unfold Dat.leavesExact; rw [idle6 t h0, noflush6 t h1]; dsimp only
      obtain ⟨n, hn⟩ := t
      cases n with
      | zero => exact absurd rfl h0
      | succ n =>
        simp only [before0_6 m c n hn]
        iintro H; iexists (fun _ => Classical.arbitrary _); iexact H

/-- At the first point the body stores the scales. -/
theorem live7 (t : Fin cfg0.N) (h : t.val = 0) : cfg0.idle 7 (grid0.coords t) = false := by
  have h1 : cond0_0 (grid0.coords t) := (hcond0_0 t).mpr (by omega)
  show (!(k0_cond1 (grid0.coords t) == 1#1)) = false
  rw [show k0_cond1 (grid0.coords t) = 1#1 from h1]; rfl

/-- At a later point it stores none. -/
theorem idle7 (t : Fin cfg0.N) (h : t.val ≠ 0) : cfg0.idle 7 (grid0.coords t) = true := by
  have ht : t.val < 79 := Nat.lt_of_lt_of_eq t.isLt N_0
  have h1 : ¬cond0_0 (grid0.coords t) := fun hc => by have := (hcond0_0 t).mp hc; omega
  show (!(k0_cond1 (grid0.coords t) == 1#1)) = true
  rw [Bool.not_eq_true', beq_eq_false_iff_ne]; exact h1

/-- Before the last point the scales are not written back. -/
theorem noflush7 (t : Fin cfg0.N) (h : t.val ≠ 78) : (cfg0.win 7).flush t = false := by
  have ht : t.val < 79 := Nat.lt_of_lt_of_eq t.isLt N_0
  cases hf : (cfg0.win 7).flush t with
  | false => rfl
  | true => exact absurd ((flush0_7 t).mp hf) (by omega)

/-- At every point but the first the buffer of the scales holds them: the first point stored them, and no later point did anything. -/
theorem before0_7 (c : Dev nD) (n : ℕ) (hn : n + 1 < cfg0.N) (d) :
    (dats m 0 c).before 7 ⟨n + 1, hn⟩ d = scaleOf (xBlk m c) := by
  have hN : cfg0.N = 79 := N_0
  induction n with
  | zero =>
    rw [(dats m 0 c).before_of_pos 7 ⟨0 + 1, hn⟩ (by simp) ((cfg0.win 7).fetch_out rfl _)]
    rw [noflush7 _ (by simp), if_neg Bool.false_ne_true]
    unfold Dat.left; rw [live7 _ (by simp)]
    dsimp only; unfold Dat.kept
    rw [Pipeline.fill_of_clip_none (cfg := cfg0) 7 _ (fun _ => rfl) d ((dats m 0 c).after 7 _), Window.fill_cut, after0_7]
  | succ n ih =>
    rw [(dats m 0 c).before_of_pos 7 ⟨n + 1 + 1, hn⟩ (by simp) ((cfg0.win 7).fetch_out rfl _)]
    rw [noflush7 _ (by simp; omega), if_neg Bool.false_ne_true]
    unfold Dat.left; rw [idle7 _ (by simp)]
    exact ih (by omega)

/-- So what the body must leave in that buffer is the scales, at every point. -/
theorem leaves7 (c : Dev nD) (t : Fin cfg0.N) :
    owns (c : Thread nD τ) (ms0_7 t) fullShare (scaleOf (xBlk m c)) ⊢ ((dats m 0 c).leavesExact 7 t : sProp 𝕄) := by
  have ht : t.val < 79 := Nat.lt_of_lt_of_eq t.isLt N_0
  by_cases h0 : t.val = 0
  · unfold Dat.leavesExact; rw [live7 t h0]; dsimp only; rw [after0_7]
  · by_cases h1 : t.val = 78
    · unfold Dat.leavesExact; rw [idle7 t h0, (flush0_7 t).mpr (by omega)]; dsimp only; rw [after0_7]
    · unfold Dat.leavesExact; rw [idle7 t h0, noflush7 t h1]; dsimp only
      obtain ⟨n, hn⟩ := t
      cases n with
      | zero => exact absurd rfl h0
      | succ n =>
        simp only [before0_7 m c n hn]
        iintro H; iexists (fun _ => Classical.arbitrary _); iexact H

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point meets its obligation: at the first point it fills the codes, the scales and the scratch buffers, at a
    later one it finds them filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).leavesExact 0 t = owns (c : Thread nD τ) (ms0_0 t) fullShare (iblk m c 0 t) from by
    rw [show (dats m 0 c).leavesExact 0 t = owns (c : Thread nD τ) (ms0_0 t) fullShare ((dats m 0 c).after 0 t) from rfl, after0_0]]
  rw [show (dats m 0 c).leavesExact 1 t = owns (c : Thread nD τ) (ms0_1 t) fullShare (iblk m c 1 t) from by
    rw [show (dats m 0 c).leavesExact 1 t = owns (c : Thread nD τ) (ms0_1 t) fullShare ((dats m 0 c).after 1 t) from rfl, after0_1]]
  rw [show (dats m 0 c).leavesExact 2 t = owns (c : Thread nD τ) (ms0_2 t) fullShare (iblk m c 2 t) from by
    rw [show (dats m 0 c).leavesExact 2 t = owns (c : Thread nD τ) (ms0_2 t) fullShare ((dats m 0 c).after 2 t) from rfl, after0_2]]
  rw [show (dats m 0 c).leavesExact 3 t = owns (c : Thread nD τ) (ms0_3 t) fullShare (iblk m c 3 t) from by
    rw [show (dats m 0 c).leavesExact 3 t = owns (c : Thread nD τ) (ms0_3 t) fullShare ((dats m 0 c).after 3 t) from rfl, after0_3]]
  rw [show (dats m 0 c).leavesExact 4 t = owns (c : Thread nD τ) (ms0_4 t) fullShare (iblk m c 4 t) from by
    rw [show (dats m 0 c).leavesExact 4 t = owns (c : Thread nD τ) (ms0_4 t) fullShare ((dats m 0 c).after 4 t) from rfl, after0_4]]
  rw [show (dats m 0 c).leavesExact 5 t = owns (c : Thread nD τ) (ms0_5 t) fullShare (yBlk m c t) from by
    rw [show (dats m 0 c).leavesExact 5 t = owns (c : Thread nD τ) (ms0_5 t) fullShare ((dats m 0 c).after 5 t) from rfl, after0_5]]
  rw [show (dats m 0 c).Φ t.succ = PhiS m c (t.val + 1) from rfl, PhiS_pos m c (t.val + 1) (by omega)]
  rw [show (dats m 0 c).Φ t.castSucc = PhiS m c t.val from rfl]
  have hN : t.val < 79 := lt_of_lt_of_eq t.isLt (show cfg0.N = 79 from N_0)
  by_cases hz : t.val = 0
  · obtain rfl : t = p0 := Fin.ext hz
    generalize ht : (p0 : Fin cfg0.N) = t at *
    have hx : iblk m c 0 t = xBlk m c := by rw [← ht]
    rw [hz, show PhiS m c 0 = Pipeline.ΦA spec0 c from rfl, PhiA0_eq]
    unfold yBlk; rw [← hx]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ _ _ ((hcond0_0 t).mpr (by omega)) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t); iexact H6
    iapply (leaves7 m c t); iexact H7
  · rw [PhiS_pos m c _ hz]
    have hb6 : ∀ d, (dats m 0 c).before 6 t d = codesOf (xBlk m c) := fun d => by
      obtain ⟨n, hn⟩ := t
      cases n with
      | zero => exact absurd rfl hz
      | succ n => exact before0_6 m c n hn d
    have hb7 : ∀ d, (dats m 0 c).before 7 t d = scaleOf (xBlk m c) := fun d => by
      obtain ⟨n, hn⟩ := t
      cases n with
      | zero => exact absurd rfl hz
      | succ n => exact before0_7 m c n hn d
    simp only [hb6, hb7]
    unfold yBlk
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ _ _ (fun hc => hz (by have := (hcond0_0 t).mp hc; omega)) (iblk m c 0 t) (iblk m c 1 t) (iblk m c 2 t) (iblk m c 3 t) (iblk m c 4 t) (xqOf (xBlk m c)) (xsOf (xBlk m c)) (codesOf (xBlk m c)) (scaleOf (xBlk m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t); iexact H6
    iapply (leaves7 m c t); iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what holds before the first point. -/
theorem hin (c : Dev nD) : Pipeline.ΦA spec0 c ⊢ (dats m 0 c).Φ 0 := by
  rw [show (dats m 0 c).Φ 0 = PhiS m c 0 from rfl]
  exact Idealize.SL.BI.Entails.refl _

/-- After the last point the scratch buffers are given back, whatever they hold. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 79 := N_0; omega), PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- The launch: every run ends, with every array of the pipeline at what the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every run ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run

end
-- ==== Proof.KernelFrame.lean ====
/-
The kernel's frame at words, from its frame proved at any float instance in KernelRun.lean. No rewrite separates the two
printed programs, so their body tables are the same, and what is proved of the one holds of the other.
-/
module

public import proofs.«01_k».proof.Defs
public import proofs.«01_k».proof.Proof.Gen.Kernel
public import proofs.«01_k».proof.Proof.KernelRun

@[expose] public section

set_option maxRecDepth 65536

noncomputable section

namespace Cert.Kernel.Run

open Idealize.ShloMosaic Idealize.SL.Sem

variable {F : FTy → Type} [FloatOps F]

/-- The two programs' bodies are the same. -/
theorem body_eq : Cert.Kernel.cc0_mxfp8_glu (F := F) = Cert.KernelIdeal.cc0_mxfp8_glu (F := F) := rfl

/-- The two programs' tables of bodies are the same: their one entry is. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => exact rfl

/-- So are the tables with the pipeline's own entries. -/
theorem defs_eq : Cert.Kernel.defs (F := F) = Cert.KernelIdeal.defs (F := F) := by
  unfold Cert.Kernel.defs Cert.KernelIdeal.defs
  rw [defs₀_eq]
  rfl

/-- Every run of the kernel at words ends, the argument arrays unchanged and every semaphore counter at zero. -/
theorem frame : Cert.quiescent_Kernel (hKernel := Cert.Kernel.Gen.facts) := fun m g _ => by
  have h := Cert.KernelIdeal.Run.frame (F := Bits) m g
  rw [← defs_eq] at h
  exact h

end Cert.Kernel.Run

end
-- ==== Proof.KernelValue.lean ====
/-
What the kernel's three result arrays hold after a run, in terms of its argument arrays.
-/
module

public import proofs.«01_k».proof.Proof.KernelRun
public import Idealize.ShloMosaic.Lib.Pipeline.Value
public import Idealize.ShloMosaic.Lib.StableHlo.RunHlo
public import Idealize.ShloMosaic.Lib.ValueIdx

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The blocks the points read, entry by entry -/

/-- The array of all tokens, one per row, as the kernel's launch finds it. -/
abbrev tokens (c : Dev nD) : Vec F S1024x1152 .bf16 :=
  shapeCast S1024x1152 (m ((c : Thread nD τ).loc main_arg0)) shapeCasts_S4x256x1152_S1024x1152

/-- The tokens are the first argument, reshaped on the host. -/
theorem V_tokens (c : Dev nD) : V m c main_v0 = tokens m c := by
  unfold_abbrev_sides
  after_results
  rfl

/-- The first window's block is the whole array of tokens. -/
theorem xBlk_eq (c : Dev nD) : xBlk m c = tokens m c := by
  rw [← V_tokens]
  funext y
  show V m c main_v0 (((cfg0.win 0).blk p0).view.emb y) = V m c main_v0 y
  congr 1
  funext a; apply Fin.ext
  match a with
  | ⟨0, _⟩ => show 0 * 1024 + 1 * (y 0).val = (y 0).val; omega
  | ⟨1, _⟩ => show 0 * 1152 + 1 * (y 1).val = (y 1).val; omega

/-- Point `t`'s row `n` of a weight block is row `256 t + n` of the weight. -/
abbrev rowOf (t : Fin cfg0.N) (n : Fin 256) : Fin 20224 :=
  ⟨t.val * 256 + n.val, by have ht : t.val < 79 := Nat.lt_of_lt_of_eq t.isLt N_0; omega⟩

/-- The block index of window 1 at point `t`: row block `t`, column block 0. -/
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- An entry of point `t`'s block of the gate codes is the argument's entry in row `256 t + n`. -/
theorem iblk1_apply (c : Dev nD) (t : Fin cfg0.N) (n : Fin 256) (k : Fin 1152) :
    iblk m c 1 t (ix2 n k) = m ((c : Thread nD τ).loc main_arg1) (ix2 (rowOf t n) k) := by
  obtain ⟨e0, e1⟩ := index1 t
  rw [← V_main_arg1 m c]
  show V m c main_arg1 (((cfg0.win 1).blk t).view.emb (ix2 n k)) = V m c main_arg1 (ix2 (rowOf t n) k)
  congr 1
  funext a; apply Fin.ext
  match a with
  | ⟨0, _⟩ => show win0_1.index t (0 : Fin 2) * 256 + 1 * n.val = t.val * 256 + n.val; rw [e0]; omega
  | ⟨1, _⟩ => show win0_1.index t (1 : Fin 2) * 1152 + 1 * k.val = k.val; rw [e1]; omega

/-- The block index of window 2 at point `t`: row block `t`, column block 0. -/
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- An entry of point `t`'s block of the gate scale exponents is the argument's entry in row `256 t + n`. -/
theorem iblk2_apply (c : Dev nD) (t : Fin cfg0.N) (n : Fin 256) (k : Fin 36) :
    iblk m c 2 t (ix2 n k) = m ((c : Thread nD τ).loc main_arg2) (ix2 (rowOf t n) k) := by
  obtain ⟨e0, e1⟩ := index2 t
  rw [← V_main_arg2 m c]
  show V m c main_arg2 (((cfg0.win 2).blk t).view.emb (ix2 n k)) = V m c main_arg2 (ix2 (rowOf t n) k)
  congr 1
  funext a; apply Fin.ext
  match a with
  | ⟨0, _⟩ => show win0_2.index t (0 : Fin 2) * 256 + 1 * n.val = t.val * 256 + n.val; rw [e0]; omega
  | ⟨1, _⟩ => show win0_2.index t (1 : Fin 2) * 36 + 1 * k.val = k.val; rw [e1]; omega

/-- The block index of window 3 at point `t`: row block `t`, column block 0. -/
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- An entry of point `t`'s block of the up codes is the argument's entry in row `256 t + n`. -/
theorem iblk3_apply (c : Dev nD) (t : Fin cfg0.N) (n : Fin 256) (k : Fin 1152) :
    iblk m c 3 t (ix2 n k) = m ((c : Thread nD τ).loc main_arg3) (ix2 (rowOf t n) k) := by
  obtain ⟨e0, e1⟩ := index3 t
  rw [← V_main_arg3 m c]
  show V m c main_arg3 (((cfg0.win 3).blk t).view.emb (ix2 n k)) = V m c main_arg3 (ix2 (rowOf t n) k)
  congr 1
  funext a; apply Fin.ext
  match a with
  | ⟨0, _⟩ => show win0_3.index t (0 : Fin 2) * 256 + 1 * n.val = t.val * 256 + n.val; rw [e0]; omega
  | ⟨1, _⟩ => show win0_3.index t (1 : Fin 2) * 1152 + 1 * k.val = k.val; rw [e1]; omega

/-- The block index of window 4 at point `t`: row block `t`, column block 0. -/
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- An entry of point `t`'s block of the up scale exponents is the argument's entry in row `256 t + n`. -/
theorem iblk4_apply (c : Dev nD) (t : Fin cfg0.N) (n : Fin 256) (k : Fin 36) :
    iblk m c 4 t (ix2 n k) = m ((c : Thread nD τ).loc main_arg4) (ix2 (rowOf t n) k) := by
  obtain ⟨e0, e1⟩ := index4 t
  rw [← V_main_arg4 m c]
  show V m c main_arg4 (((cfg0.win 4).blk t).view.emb (ix2 n k)) = V m c main_arg4 (ix2 (rowOf t n) k)
  congr 1
  funext a; apply Fin.ext
  match a with
  | ⟨0, _⟩ => show win0_4.index t (0 : Fin 2) * 256 + 1 * n.val = t.val * 256 + n.val; rw [e0]; omega
  | ⟨1, _⟩ => show win0_4.index t (1 : Fin 2) * 36 + 1 * k.val = k.val; rw [e1]; omega

/-! ## The first result: the blocks of its columns -/

/-- The point that writes column `j` of the first result. -/
abbrev ptOf (j : Fin 20224) : Fin cfg0.N := ⟨j.val / 256, lt_of_lt_of_eq (by omega) N_0.symm⟩

/-- The place of column `j` in that point's block. -/
abbrev colOf (j : Fin 20224) : Fin 256 := ⟨j.val % 256, Nat.mod_lt _ (by decide)⟩

/-- The first result array: column `j` is a column of the block of point `j / 256`. -/
def Y (c : Dev nD) : Buf (Elt F) ((c : Thread nD τ).loc main_v1_0) := fun i => yBlk m c (ptOf (i 1)) (ix2 (i 0) (colOf (i 1)))

/-- The block index of the first result's window at point `t`: row block 0, column block `t`. -/
theorem index5 : ∀ t : Fin cfg0.N, win0_5.index t (0 : Fin 2) = 0 ∧ win0_5.index t (1 : Fin 2) = t.val :=
  (by decide +kernel : ∀ t : Fin grid0.N, win0_5.index t (0 : Fin 2) = 0 ∧ win0_5.index t (1 : Fin 2) = t.val)

/-- What point `t` writes back is its block of `Y`. -/
theorem flushed5_eq (c : Dev nD) (t : Fin cfg0.N) :
    (dats m 0 c).flushed 5 t = ((cfg0.win 5).blk t).view.read (Elt F) (Y m c) := by
  show (cfg0.win 5).cut (grid0.coords t) ((dats m 0 c).after 5 t) = _
  rw [after0_5]
  obtain ⟨e0, e1⟩ := index5 t
  funext y
  have hy1 : (y 1).val < 256 := (y 1).isLt
  have hb0 : (((cfg0.win 5).blk t).view.emb y 0).val = win0_5.index t (0 : Fin 2) * 1024 + 1 * (y 0).val := rfl
  have hb1 : (((cfg0.win 5).blk t).view.emb y 1).val = win0_5.index t (1 : Fin 2) * 256 + 1 * (y 1).val := rfl
  have hp : ptOf (((cfg0.win 5).blk t).view.emb y 1) = t := by
    apply Fin.ext; show (((cfg0.win 5).blk t).view.emb y 1).val / 256 = t.val; rw [hb1, e1]; omega
  have hl : (ix2 (((cfg0.win 5).blk t).view.emb y 0) (colOf (((cfg0.win 5).blk t).view.emb y 1)) : S1024x256.Idx) = (cfg0.win 5).xinj (grid0.coords t) y := by
    funext a; apply Fin.ext
    match a with
    | ⟨0, _⟩ => show (((cfg0.win 5).blk t).view.emb y 0).val = (y 0).val; rw [hb0, e0]; omega
    | ⟨1, _⟩ => show (((cfg0.win 5).blk t).view.emb y 1).val % 256 = (y 1).val; rw [hb1, e1]; omega
  show yBlk m c t ((cfg0.win 5).xinj (grid0.coords t) y) = Y m c (((cfg0.win 5).blk t).view.emb y)
  unfold Y
  rw [hp, hl]

/-- Every index of the array is in some point's block, and every point writes its block back. -/
theorem covered5 (i : S1024x20224.Idx) : ∃ t : Fin cfg0.N, (cfg0.win 5).flush t = true ∧ i ∈ ((cfg0.win 5).blk t).view.set := by
  have hi0 : (i 0).val < 1024 := (i 0).isLt
  have hi1 : (i 1).val < 20224 := (i 1).isLt
  obtain ⟨e0, e1⟩ := index5 (ptOf (i 1))
  refine ⟨ptOf (i 1), flush0_5 _, ?_⟩
  show i ∈ ((View.whole main_v1_0).slice (win0_5.rect (ptOf (i 1)))).set
  rw [View.set_slice_whole, Rect.mem_set_unit]
  intro a
  match a with
  | ⟨0, _⟩ => show win0_5.index (ptOf (i 1)) (0 : Fin 2) * 1024 ≤ (i 0).val ∧ (i 0).val < win0_5.index (ptOf (i 1)) (0 : Fin 2) * 1024 + 1024; omega
  | ⟨1, _⟩ => show win0_5.index (ptOf (i 1)) (1 : Fin 2) * 256 ≤ (i 1).val ∧ (i 1).val < win0_5.index (ptOf (i 1)) (1 : Fin 2) * 256 + 256; rw [e1]; show (i 1).val / 256 * 256 ≤ _ ∧ _ < (i 1).val / 256 * 256 + 256; omega

/-- The first result array after the run is `Y`. -/
theorem final5 (c : Dev nD) : (dats m 0 c).arrAt 5 cfg0.N = Y m c :=
  (dats m 0 c).arrAt_eq_of_cover 5 _ (fun t _ => flushed5_eq m c t) (fun i => covered5 i)

/-! ## The second and third results: each written back once, whole -/

/-- The last grid point. -/
def pLast : Fin cfg0.N := ⟨78, by decide⟩

/-- The window of the codes is always at block 0. -/
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- The array of the codes after the run. -/
def G6 (c : Dev nD) : Buf (Elt F) ((c : Thread nD τ).loc main_v1_1) := codesOf (tokens m c)

/-- What is written back is all of that array. -/
theorem flushed6_eq (c : Dev nD) (t : Fin cfg0.N) :
    (dats m 0 c).flushed 6 t = ((cfg0.win 6).blk t).view.read (Elt F) (G6 m c) := by
  show (cfg0.win 6).cut (grid0.coords t) ((dats m 0 c).after 6 t) = _
  rw [after0_6, xBlk_eq]
  obtain ⟨e0, e1⟩ := index6 t
  funext y
  have hl : ((cfg0.win 6).blk t).view.emb y = (cfg0.win 6).xinj (grid0.coords t) y := by
    funext a; apply Fin.ext
    match a with
    | ⟨0, _⟩ => show win0_6.index t (0 : Fin 2) * 1024 + 1 * (y 0).val = (y 0).val; rw [e0]; omega
    | ⟨1, _⟩ => show win0_6.index t (1 : Fin 2) * 1152 + 1 * (y 1).val = (y 1).val; rw [e1]; omega
  show codesOf (tokens m c) ((cfg0.win 6).xinj (grid0.coords t) y) = G6 m c (((cfg0.win 6).blk t).view.emb y)
  unfold G6
  rw [hl]

/-- The last point writes back every index of it. -/
theorem covered6 (i : S1024x1152.Idx) : ∃ t : Fin cfg0.N, (cfg0.win 6).flush t = true ∧ i ∈ ((cfg0.win 6).blk t).view.set := by
  have hi0 : (i 0).val < 1024 := (i 0).isLt
  have hi1 : (i 1).val < 1152 := (i 1).isLt
  obtain ⟨e0, e1⟩ := index6 pLast
  refine ⟨pLast, (flush0_6 pLast).mpr (by decide), ?_⟩
  show i ∈ ((View.whole main_v1_1).slice (win0_6.rect pLast)).set
  rw [View.set_slice_whole, Rect.mem_set_unit]
  intro a
  match a with
  | ⟨0, _⟩ => show win0_6.index pLast (0 : Fin 2) * 1024 ≤ (i 0).val ∧ (i 0).val < win0_6.index pLast (0 : Fin 2) * 1024 + 1024; omega
  | ⟨1, _⟩ => show win0_6.index pLast (1 : Fin 2) * 1152 ≤ (i 1).val ∧ (i 1).val < win0_6.index pLast (1 : Fin 2) * 1152 + 1152; omega

/-- The array of the codes after the run. -/
theorem final6 (c : Dev nD) : (dats m 0 c).arrAt 6 cfg0.N = codesOf (tokens m c) :=
  (dats m 0 c).arrAt_eq_of_cover 6 (G6 m c) (fun t _ => flushed6_eq m c t) (fun i => covered6 i)

/-- The window of the scales is always at block 0. -/
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- The array of the scales after the run. -/
def G7 (c : Dev nD) : Buf (Elt F) ((c : Thread nD τ).loc main_v1_2) := scaleOf (tokens m c)

/-- What is written back is all of that array. -/
theorem flushed7_eq (c : Dev nD) (t : Fin cfg0.N) :
    (dats m 0 c).flushed 7 t = ((cfg0.win 7).blk t).view.read (Elt F) (G7 m c) := by
  show (cfg0.win 7).cut (grid0.coords t) ((dats m 0 c).after 7 t) = _
  rw [after0_7, xBlk_eq]
  obtain ⟨e0, e1⟩ := index7 t
  funext y
  have hl : ((cfg0.win 7).blk t).view.emb y = (cfg0.win 7).xinj (grid0.coords t) y := by
    funext a; apply Fin.ext
    match a with
    | ⟨0, _⟩ => show win0_7.index t (0 : Fin 2) * 1024 + 1 * (y 0).val = (y 0).val; rw [e0]; omega
    | ⟨1, _⟩ => show win0_7.index t (1 : Fin 2) * 1 + 1 * (y 1).val = (y 1).val; rw [e1]; omega
  show scaleOf (tokens m c) ((cfg0.win 7).xinj (grid0.coords t) y) = G7 m c (((cfg0.win 7).blk t).view.emb y)
  unfold G7
  rw [hl]

/-- The last point writes back every index of it. -/
theorem covered7 (i : S1024x1.Idx) : ∃ t : Fin cfg0.N, (cfg0.win 7).flush t = true ∧ i ∈ ((cfg0.win 7).blk t).view.set := by
  have hi0 : (i 0).val < 1024 := (i 0).isLt
  have hi1 : (i 1).val < 1 := (i 1).isLt
  obtain ⟨e0, e1⟩ := index7 pLast
  refine ⟨pLast, (flush0_7 pLast).mpr (by decide), ?_⟩
  show i ∈ ((View.whole main_v1_2).slice (win0_7.rect pLast)).set
  rw [View.set_slice_whole, Rect.mem_set_unit]
  intro a
  match a with
  | ⟨0, _⟩ => show win0_7.index pLast (0 : Fin 2) * 1024 ≤ (i 0).val ∧ (i 0).val < win0_7.index pLast (0 : Fin 2) * 1024 + 1024; omega
  | ⟨1, _⟩ => show win0_7.index pLast (1 : Fin 2) * 1 ≤ (i 1).val ∧ (i 1).val < win0_7.index pLast (1 : Fin 2) * 1 + 1; omega

/-- The array of the scales after the run. -/
theorem final7 (c : Dev nD) : (dats m 0 c).arrAt 7 cfg0.N = scaleOf (tokens m c) :=
  (dats m 0 c).arrAt_eq_of_cover 7 (G7 m c) (fun t _ => flushed7_eq m c t) (fun i => covered7 i)

/-! ## The run, read -/

/-- Every run of the kernel ends with the three results at these arrays and the arguments unchanged. -/
theorem run : θ_run defs (onTc (τ := τ) (main (F := F))) ⟨m, fun _ => 0, ρ⟩ fun r => ∀ c : Dev nD,
      r.2.mem ((c : Thread nD τ).loc main_v1_0) = Y m c
      ∧ r.2.mem ((c : Thread nD τ).loc main_v1_1) = codesOf (tokens m c)
      ∧ r.2.mem ((c : Thread nD τ).loc main_v1_2) = scaleOf (tokens m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c),
      ((h c).1 6).trans (final6 m c),
      ((h c).1 7).trans (final7 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Run

end
-- ==== Proof.Exponent.lean ====
/-
Powers of two written as bit patterns, and the exponent of a nonnegative real.

A float32 word whose only nonzero field is the biased exponent `n` denotes `2 ^ (n - 127)`
(`0` at `n = 0`, infinity at `n = 255`). The kernel builds its scales as such words and reads an
exponent off a value by counting the words at or below it; the reference takes the same exponent
from a logarithm and raises two to it. This module shows that the two agree. -/
module

public import Idealize.ShloMosaic.PureOps.Ideal
public import Idealize.ShloMosaic.PureOps.Ideal.Laws
public import Idealize.ShloMosaic.Lib.IdealHost

@[expose] public section

noncomputable section

namespace Cert.Exponent

open Idealize.ShloMosaic

/-- The fields of the word with biased exponent `n`: positive, exponent `n`, fraction zero. -/
theorem fields : ∀ n : Fin 256,
    ((BitVec.ofNat 32 n.val <<< 23).extractLsb' 31 1 == 1#1) = false ∧
    ((BitVec.ofNat 32 n.val <<< 23).extractLsb' 23 8).toNat = n.val ∧
    ((BitVec.ofNat 32 n.val <<< 23).extractLsb' 0 23).toNat = 0 := by
  decide

/-- The number the word with biased exponent `n` denotes. -/
def word (n : ℕ) : EReal := Ideal.ofBits .f32 (BitVec.ofNat 32 n <<< 23)

/-- The word with biased exponent zero denotes zero. -/
theorem word_zero : word 0 = 0 := by
  simp [word, Ideal.ofBits, Ideal.ieee, -EReal.coe_mul]

/-- The word with biased exponent 255 denotes infinity. -/
theorem word_top : word 255 = ⊤ := by
  obtain ⟨h1, h2, h3⟩ := fields 255
  simp only [Fin.isValue, show ((255 : Fin 256) : ℕ) = 255 from rfl] at h1 h2 h3
  simp only [word, Ideal.ofBits, Ideal.ieee, Nat.add_eq, Nat.reduceAdd, h1, h2, h3]
  simp

/-- A positive word with biased exponent `n` between 1 and 254 and fraction zero denotes
    `2 ^ (n - 127)`. -/
theorem ofBits_of_fields {b : BitVec 32} {n : ℕ} (h1 : (b.extractLsb' 31 1 == 1#1) = false)
    (h2 : (b.extractLsb' 23 8).toNat = n) (h3 : (b.extractLsb' 0 23).toNat = 0)
    (h : 1 ≤ n) (h' : n ≤ 254) :
    Ideal.ofBits .f32 b = (((2 : ℝ) ^ ((n : ℤ) - 127) : ℝ) : EReal) := by
  change Ideal.ieee 8 23 b = _
  rw [Ideal.ieee]
  simp only [Nat.reduceAdd, h1, h2, h3]
  have e1 : ¬ n = 2 ^ 8 - 1 := by norm_num; omega
  have e2 : ¬ n = 0 := by omega
  rw [if_neg e1, if_neg e2]
  have h23 : (((2 ^ 23 + 0 : ℕ) : ℝ)) = (2 : ℝ) ^ (23 : ℤ) := by norm_num
  have hb : (n : ℤ) - 127 = 23 + ((n : ℤ) - (2 ^ (8 - 1) - 1) - ((23 : ℕ) : ℤ)) := by
    norm_num
  rw [h23, hb, zpow_add₀ (by norm_num : (2 : ℝ) ≠ 0)]
  simp only [Bool.false_eq_true, if_false, one_mul]

/-- The word with biased exponent `n` between 1 and 254 denotes `2 ^ (n - 127)`. -/
theorem word_pow {n : ℕ} (h : 1 ≤ n) (h' : n ≤ 254) :
    word n = (((2 : ℝ) ^ ((n : ℤ) - 127) : ℝ) : EReal) :=
  have f := fields ⟨n, by omega⟩
  ofBits_of_fields f.1 f.2.1 f.2.2 h h'

/-- The number of positive power-of-two words, infinity included, at or below `t`. -/
def count (t : EReal) : ℕ := (Finset.univ.filter fun k : Fin 255 => word (k.val + 1) ≤ t).card

/-- A number below the smallest positive normal float32 is above no positive power word. -/
theorem count_small {r : ℝ} (h : r < (2 : ℝ) ^ (-126 : ℤ)) : count (r : EReal) = 0 := by
  unfold count
  rw [Finset.card_eq_zero, Finset.filter_eq_empty_iff]
  intro k _ hk
  by_cases h255 : k.val + 1 = 255
  · rw [h255, word_top] at hk
    exact absurd hk (by simp)
  · rw [word_pow (by omega) (by have := k.isLt; omega), EReal.coe_le_coe_iff] at hk
    have : (2 : ℝ) ^ (-126 : ℤ) ≤ (2 : ℝ) ^ (((k.val + 1 : ℕ) : ℤ) - 127) :=
      zpow_le_zpow_right₀ (by norm_num) (by push_cast; omega)
    linarith

/-- A real between `2 ^ z` and `2 ^ (z + 1)`, both in the normal range, is above exactly the
    `z + 127` words `2 ^ (-126) .. 2 ^ z`. -/
theorem count_normal {r : ℝ} {z : ℤ} (hz : -126 ≤ z) (hz' : z ≤ 126)
    (h : (2 : ℝ) ^ z ≤ r) (h' : r < (2 : ℝ) ^ (z + 1)) : count (r : EReal) = (z + 127).toNat := by
  unfold count
  have : (Finset.univ.filter fun k : Fin 255 => word (k.val + 1) ≤ (r : EReal))
      = Finset.univ.filter fun k : Fin 255 => k.val < (z + 127).toNat := by
    apply Finset.filter_congr
    intro k _
    by_cases h255 : k.val + 1 = 255
    · rw [h255, word_top]
      simp only [top_le_iff, EReal.coe_ne_top, false_iff]
      omega
    · rw [word_pow (by omega) (by have := k.isLt; omega), EReal.coe_le_coe_iff]
      constructor
      · intro hk
        by_contra hlt
        have : (2 : ℝ) ^ (z + 1) ≤ (2 : ℝ) ^ (((k.val + 1 : ℕ) : ℤ) - 127) :=
          zpow_le_zpow_right₀ (by norm_num) (by push_cast; omega)
        linarith
      · intro hk
        refine le_trans (zpow_le_zpow_right₀ (by norm_num) ?_) h
        push_cast
        omega
  rw [this, Fin.card_filter_val_lt]
  omega

/-- The exponent the kernel takes from the count: the count less 126, and zero when the count says
    subnormal (0) or infinite (255). -/
def countExp (t : EReal) : BitVec 32 :=
  if BitVec.ofNat 32 (count t) = 0#32 ∨ BitVec.ofNat 32 (count t) = 255#32 then 0#32
  else BitVec.ofNat 32 (count t) - 126#32

/-- The exponent the reference takes from the logarithm, zero below the normal range. -/
def logExp (t : EReal) : BitVec 32 :=
  if t < Ideal.ofBits .f32 0x00800000#32 then 0#32
  else Ideal.fptosi 32 (Ideal.liftRound Int.floor
    (Ideal.div (Ideal.log t) (Ideal.log (Ideal.ofBits .f32 0x40000000#32)))
      + Ideal.ofBits .f32 0x3F800000#32)

/-- The smallest positive normal float32. -/
theorem ofBits_tiny : Ideal.ofBits .f32 0x00800000#32 = (((2 : ℝ) ^ (-126 : ℤ) : ℝ) : EReal) := by
  have := word_pow (n := 1) (by norm_num) (by norm_num)
  rw [show ((1 : ℕ) : ℤ) - 127 = -126 by norm_num] at this
  rw [← this]
  rfl

/-- The float32 two. -/
theorem ofBits_two : Ideal.ofBits .f32 0x40000000#32 = ((2 : ℝ) : EReal) := by
  have := word_pow (n := 128) (by norm_num) (by norm_num)
  rw [show (2 : ℝ) ^ (((128 : ℕ) : ℤ) - 127) = 2 by norm_num] at this
  rw [← this]
  rfl

/-- The float32 one. -/
theorem ofBits_one : Ideal.ofBits .f32 0x3F800000#32 = ((1 : ℝ) : EReal) := by
  have := word_pow (n := 127) (by norm_num) (by norm_num)
  rw [show (2 : ℝ) ^ (((127 : ℕ) : ℤ) - 127) = 1 by norm_num] at this
  rw [← this]
  rfl

/-- The floor of the quotient of logarithms is the exponent of the binade. -/
theorem floor_log {r : ℝ} (hr : 0 < r) :
    (2 : ℝ) ^ ⌊Real.log r * (Real.log 2)⁻¹⌋ ≤ r
      ∧ r < (2 : ℝ) ^ (⌊Real.log r * (Real.log 2)⁻¹⌋ + 1) := by
  have hl : 0 < Real.log 2 := Real.log_pos (by norm_num)
  rw [← div_eq_mul_inv]
  constructor
  · rw [← Real.log_le_log_iff (by positivity) hr, Real.log_zpow]
    exact (le_div_iff₀ hl).mp (Int.floor_le _)
  · rw [← Real.log_lt_log_iff hr (by positivity), Real.log_zpow]
    have := Int.lt_floor_add_one (Real.log r / Real.log 2)
    push_cast
    exact (div_lt_iff₀ hl).mp this

/-- The two exponents agree on `[0, 2 ^ 127)`, and are an integer between -125 and 127 there. -/
theorem countExp_eq_logExp {r : ℝ} (h0 : 0 ≤ r) (h1 : r < (2 : ℝ) ^ (127 : ℤ)) :
    ∃ z : ℤ, -125 ≤ z ∧ z ≤ 127 ∧ countExp (r : EReal) = BitVec.ofInt 32 z
      ∧ logExp (r : EReal) = BitVec.ofInt 32 z := by
  by_cases hs : r < (2 : ℝ) ^ (-126 : ℤ)
  · refine ⟨0, by norm_num, by norm_num, ?_, ?_⟩
    · simp [countExp, count_small hs]
    · rw [logExp, ofBits_tiny, if_pos (EReal.coe_lt_coe_iff.mpr hs)]
      rfl
  · push Not at hs
    have hr : 0 < r := lt_of_lt_of_le (by positivity) hs
    obtain ⟨hlo, hhi⟩ := floor_log hr
    have hz : -126 ≤ ⌊Real.log r * (Real.log 2)⁻¹⌋ := by
      by_contra hlt
      have : (2 : ℝ) ^ (⌊Real.log r * (Real.log 2)⁻¹⌋ + 1) ≤ (2 : ℝ) ^ (-126 : ℤ) :=
        zpow_le_zpow_right₀ (by norm_num) (by omega)
      exact absurd (hhi.trans_le this) (not_lt.mpr hs)
    have hz' : ⌊Real.log r * (Real.log 2)⁻¹⌋ ≤ 126 := by
      by_contra hlt
      have : (2 : ℝ) ^ (127 : ℤ) ≤ (2 : ℝ) ^ (⌊Real.log r * (Real.log 2)⁻¹⌋) :=
        zpow_le_zpow_right₀ (by norm_num) (by omega)
      linarith
    have hc := count_normal hz hz' hlo hhi
    generalize hL : ⌊Real.log r * (Real.log 2)⁻¹⌋ = z at *
    refine ⟨z + 1, by omega, by omega, ?_, ?_⟩
    · rw [countExp, hc]
      obtain ⟨n, hn⟩ : ∃ n : ℕ, z + 127 = n := ⟨(z + 127).toNat, by omega⟩
      rw [hn, Int.toNat_natCast]
      have hz1 : z + 1 = (n : ℤ) - 126 := by omega
      rw [hz1]
      have hn1 : 1 ≤ n := by omega
      have hn2 : n ≤ 253 := by omega
      clear hn hz1 hc
      interval_cases n <;> rfl
    · rw [logExp, ofBits_tiny, if_neg (by rw [EReal.coe_lt_coe_iff]; linarith), ofBits_two,
        ofBits_one]
      have hl2 : Real.log 2 ≠ 0 := (Real.log_pos (by norm_num)).ne'
      have hlog : Ideal.log (r : EReal) = ((Real.log r : ℝ) : EReal) := by
        rw [Ideal.log_coe, if_neg (not_le.mpr hr)]
      have hlog2 : Ideal.log ((2 : ℝ) : EReal) = ((Real.log 2 : ℝ) : EReal) := by
        rw [Ideal.log_coe, if_neg (by norm_num)]
      have hdiv : Ideal.div ((Real.log r : ℝ) : EReal) ((Real.log 2 : ℝ) : EReal)
          = ((Real.log r * (Real.log 2)⁻¹ : ℝ) : EReal) := by
        rw [Ideal.div, if_neg (by exact_mod_cast hl2)]
        rw [EReal.coe_mul, EReal.coe_inv]
      rw [hlog, hlog2, hdiv]
      have hfl : Ideal.liftRound Int.floor ((Real.log r * (Real.log 2)⁻¹ : ℝ) : EReal)
          = (((z : ℤ) : ℝ) : EReal) := by
        rw [← hL]
        rfl
      rw [hfl, ← EReal.coe_add]
      rw [Ideal.fptosi]
      congr 1
      have : ((z : ℝ) + 1) = ((z + 1 : ℤ) : ℝ) := by push_cast; ring
      rw [this]
      change max _ (min _ (if (0 : ℝ) ≤ ((z + 1 : ℤ) : ℝ) then ⌊((z + 1 : ℤ) : ℝ)⌋
        else ⌈((z + 1 : ℤ) : ℝ)⌉)) = _
      rw [Int.floor_intCast, Int.ceil_intCast, ite_self]
      norm_num
      omega

/-- Two to an integer exponent as the reference writes it: infinity above the float32 range, zero
    below the normal range. -/
def power (e : BitVec 32) : EReal :=
  if BitVec.slt 127#32 e then Ideal.ofBits .f32 0x7F800000#32
  else if BitVec.slt e 4294967170#32 then Ideal.ofBits .f32 0x00000000#32
  else Ideal.exp2 ((e.toInt : ℝ) : EReal)

/-- The reference's power of two is the word whose biased exponent is the exponent plus 127. -/
theorem power_eq_word {n : ℕ} (h : n ≤ 255) :
    power (BitVec.ofNat 32 n - 127#32) = word n := by
  by_cases h0 : n = 0
  · subst h0
    rw [word_zero, power, if_neg (by decide), if_pos (by decide)]
    simp [Ideal.ofBits, Ideal.ieee, -EReal.coe_mul]
  by_cases h255 : n = 255
  · subst h255
    rw [power, if_pos (by decide)]
    rfl
  have key : ∀ k : Fin 255, k.val ≠ 0 →
      BitVec.slt 127#32 (BitVec.ofNat 32 k.val - 127#32) = false ∧
      BitVec.slt (BitVec.ofNat 32 k.val - 127#32) 4294967170#32 = false ∧
      (BitVec.ofNat 32 k.val - 127#32).toInt = (k.val : ℤ) - 127 := by decide
  obtain ⟨k1, k2, k3⟩ := key ⟨n, by omega⟩ h0
  simp only at k1 k2 k3
  rw [power, k1, k2, k3, word_pow (by omega) (by omega)]
  simp only [Bool.false_eq_true, if_false]
  change ((Real.rpow 2 (((n : ℤ) - 127 : ℤ) : ℝ) : ℝ) : EReal) = _
  congr 1
  exact Real.rpow_intCast 2 _

/-- The word of a difference of integers is the difference of the words. -/
theorem ofInt_sub (a b : ℤ) : BitVec.ofInt 32 (a - b) = BitVec.ofInt 32 a - BitVec.ofInt 32 b := by
  rw [sub_eq_add_neg, BitVec.ofInt_add, BitVec.ofInt_neg, BitVec.sub_eq_add_neg]

/-- The word the kernel shifts into place for the exponent `z` is the reference's power of `z`. -/
theorem scale_word {z : ℤ} (h : -125 ≤ z) (h' : z ≤ 127) :
    Ideal.ofBits .f32 ((BitVec.ofInt 32 z + 127#32) <<< 23) = power (BitVec.ofInt 32 z) := by
  obtain ⟨n, hn⟩ : ∃ n : ℕ, z = (n : ℤ) - 127 := ⟨(z + 127).toNat, by omega⟩
  have e : BitVec.ofInt 32 z = BitVec.ofNat 32 n - 127#32 := by
    rw [hn, ofInt_sub]
    rfl
  rw [e, power_eq_word (by omega), BitVec.sub_add_cancel]
  rfl

/-- The word the kernel shifts into place for the exponent `-z` is the reference's power of
    `-z`. -/
theorem inverse_word {z : ℤ} (h : -125 ≤ z) (h' : z ≤ 127) :
    Ideal.ofBits .f32 ((127#32 - BitVec.ofInt 32 z) <<< 23) = power (0#32 - BitVec.ofInt 32 z) := by
  obtain ⟨n, hn⟩ : ∃ n : ℕ, z = 127 - (n : ℤ) := ⟨(127 - z).toNat, by omega⟩
  have e : BitVec.ofInt 32 z = 127#32 - BitVec.ofNat 32 n := by
    rw [hn, ofInt_sub]
    rfl
  have e1 : 0#32 - BitVec.ofInt 32 z = BitVec.ofNat 32 n - 127#32 := by
    rw [e]
    generalize BitVec.ofNat 32 n = b
    rw [BitVec.sub_eq_add_neg, BitVec.sub_eq_add_neg, BitVec.sub_eq_add_neg, BitVec.neg_add]
    simp [BitVec.sub_eq_add_neg, BitVec.add_comm]
  have e2 : 127#32 - BitVec.ofInt 32 z = BitVec.ofNat 32 n := by
    rw [e]
    generalize BitVec.ofNat 32 n = b
    simp [BitVec.sub_eq_add_neg, BitVec.neg_add, ← BitVec.add_assoc]
  rw [e1, e2, power_eq_word (by omega)]
  rfl

/-- The word a weight block's scale byte is shifted into is the reference's power of the byte less
    127. -/
theorem byte_word (b : BitVec 8) :
    Ideal.ofBits .f32 (b.setWidth 32 <<< 23) = power (b.setWidth 32 - 127#32) := by
  have e : b.setWidth 32 = BitVec.ofNat 32 b.toNat := by
    apply BitVec.eq_of_toNat_eq
    simp [BitVec.toNat_setWidth, BitVec.toNat_ofNat]
  rw [e, power_eq_word (by have := b.isLt; omega)]
  rfl

/-- The largest finite bfloat16. -/
theorem ofBits_max : Ideal.ofBits .f32 0x7F7F0000#32
    = (((2 ^ 24 - 2 ^ 16) * 2 ^ 104 : ℝ) : EReal) := by
  simp [Ideal.ofBits, Ideal.ieee, -EReal.coe_mul]
  norm_num

/-- The float32 nearest 1/448 is nonnegative and small. -/
theorem ofBits_inv : ∃ q : ℝ, Ideal.ofBits .f32 0x3B124925#32 = (q : EReal) ∧ 0 ≤ q ∧ q ≤ 1 / 4 :=
    by
  refine ⟨(2 ^ 23 + 0x124925) * (2 : ℝ) ^ (-32 : ℤ), ?_, by positivity, by norm_num⟩
  simp [Ideal.ofBits, Ideal.ieee, -EReal.coe_mul]
  norm_num

/-- The scaled row maximum the exponent is taken of. -/
def scaled (a : EReal) : EReal := a * Ideal.ofBits .f32 0x3B124925#32

/-- The reference's exponent of a row: zero for a row of zeros. -/
def rowExp (a : EReal) : BitVec 32 :=
  if a = Ideal.ofBits .f32 0x00000000#32 then 0#32 else logExp (scaled a)

/-- For a row maximum within the bfloat16 range the kernel's exponent is the reference's. -/
theorem rowExp_eq {a : EReal} (h0 : 0 ≤ a) (h1 : a ≤ Ideal.ofBits .f32 0x7F7F0000#32) :
    ∃ z : ℤ, -125 ≤ z ∧ z ≤ 127 ∧ countExp (scaled a) = BitVec.ofInt 32 z
      ∧ rowExp a = BitVec.ofInt 32 z := by
  rw [ofBits_max] at h1
  lift a to ℝ using ⟨ne_top_of_le_ne_top (EReal.coe_ne_top _) h1, fun h => by simp [h] at h0⟩
  have h0' : 0 ≤ a := by exact_mod_cast h0
  have h1' := EReal.coe_le_coe_iff.mp h1
  obtain ⟨q, hq, hq0, hq1⟩ := ofBits_inv
  have hs : scaled (a : EReal) = ((a * q : ℝ) : EReal) := by
    rw [scaled, hq, EReal.coe_mul]
  have hlt : a * q < (2 : ℝ) ^ (127 : ℤ) := by
    calc a * q ≤ ((2 ^ 24 - 2 ^ 16) * 2 ^ 104) * (1 / 4) :=
          mul_le_mul h1' hq1 hq0 (by norm_num)
      _ < (2 : ℝ) ^ (127 : ℤ) := by norm_num
  obtain ⟨z, hz, hz', hc, hl⟩ := countExp_eq_logExp (mul_nonneg h0' hq0) hlt
  rw [hs]
  unfold rowExp
  rw [hs, Ideal.ofBits_zero_f32]
  by_cases ha : a = 0
  · subst ha
    refine ⟨0, by norm_num, by norm_num, ?_, ?_⟩
    · rw [zero_mul, countExp, count_small (by positivity)]
      rfl
    · simp
  · rw [if_neg (by exact_mod_cast ha)]
    exact ⟨z, hz, hz', hc, hl⟩

end Cert.Exponent

end
-- ==== Proof.Decode.lean ====
/-
The kernel's decoded weight block, entry by entry over the extended reals: the code times the scale of its block of
32 columns, the scale being the power of two the scale byte names. The kernel spreads the scales over the columns by
gathering, 128 columns at a time, from the row of the block's 36 scales.
-/
module

public import proofs.«01_k».proof.Proof.RunFacts
public import proofs.«01_k».proof.Proof.Exponent
public import Idealize.ShloMosaic.Lib.Pipeline.Value
public import Idealize.ShloMosaic.Lib.ValueIdx
public import Idealize.ShloMosaic.Lib.Pointwise.Contract
public import Idealize.ShloMosaic.Lib.Pointwise.ElementwiseCore

@[expose] public section

set_option maxRecDepth 16384

noncomputable section

namespace Cert.KernelIdeal.Run

open Cert.KernelIdeal Cert.KernelIdeal.Gen
open Idealize.ShloMosaic hiding ix1 ix2 ix3
open Idealize.ShloMosaic.ValueIdx

/-! ## The nine chunks -/

/-- The scale number of each lane of the chunk whose first scale is `c`, a negative one wrapped by the row's length. -/
def lanes (c : BitVec 32) : IVec S256x128 32 :=
  select (cmpi .slt (addi k0_pay10 (broadcast S256x128 c)) (broadcast S256x128 0#32))
    (addi (addi k0_pay10 (broadcast S256x128 c)) (broadcast S256x128 128#32)) (addi k0_pay10 (broadcast S256x128 c))

/-- One decoded chunk of 128 columns: its codes times the gathered scales. -/
def chunk (w : Vec Ideal S256x1152 .fp8e4m3) (s : Vec Ideal S256x36 .i8) (c : BitVec 32) (off : Fin 2 → ℕ)
    (h : S256x1152.Slices off S256x128) : FVec Ideal S256x128 .bf16 :=
  mulf (extf .bf16 (extractStridedSlice S256x128 off w h) bitsLt_fp8e4m3_bf16)
    (truncf .bf16 (dynamicGather 1 (k0_pay9 s) (shapeCast S256x128 (shapeCast S256x128x1 (lanes c)
      shapeCasts_S256x128_S256x128x1) shapeCasts_S256x128x1_S256x128)) bitsLt_bf16_f32)

/-- The first weight's decoded block is the nine chunks side by side. -/
theorem gateOf_eq (w : Vec Ideal S256x1152 .fp8e4m3) (s : Vec Ideal S256x36 .i8) :
    gateOf w s = concatenate S256x1152 1
      [⟨S256x128, chunk w s 0#32 ![0, 0] slices_S256x1152_o0_0_S256x128⟩, ⟨S256x128, chunk w s 4#32 ![0, 128] slices_S256x1152_o0_128_S256x128⟩,
       ⟨S256x128, chunk w s 8#32 ![0, 256] slices_S256x1152_o0_256_S256x128⟩, ⟨S256x128, chunk w s 12#32 ![0, 384] slices_S256x1152_o0_384_S256x128⟩,
       ⟨S256x128, chunk w s 16#32 ![0, 512] slices_S256x1152_o0_512_S256x128⟩, ⟨S256x128, chunk w s 20#32 ![0, 640] slices_S256x1152_o0_640_S256x128⟩,
       ⟨S256x128, chunk w s 24#32 ![0, 768] slices_S256x1152_o0_768_S256x128⟩, ⟨S256x128, chunk w s 28#32 ![0, 896] slices_S256x1152_o0_896_S256x128⟩,
       ⟨S256x128, chunk w s 32#32 ![0, 1024] slices_S256x1152_o0_1024_S256x128⟩]
      concatenates_S256x128_S256x128_S256x128_S256x128_S256x128_S256x128_S256x128_S256x128_S256x128_S256x1152_d1 := rfl

/-- The second weight is decoded by the same text, so its product is the first one's at the second weight. -/
theorem upOf_eq (w : Vec Ideal S256x1152 .fp8e4m3) (s : Vec Ideal S256x36 .i8) (xq : Vec Ideal S1024x1152 .bf16)
    (xs : Vec Ideal S1024x128 .f32) : upOf w s xq xs = k0_pay40 (gateOf w s) xq xs := rfl

/-! ## A chunk, entry by entry -/

/-- Floor division of a lane number by 32 as the kernel computes it on words, then the wrap of a negative scale
    number: for the lanes and first scales there are, the quotient plus the first scale. -/
theorem lanes_word : ∀ (q : Fin 9) (l : Fin 128),
    (let b : BitVec 32 := BitVec.ofNat 32 l.val
     let d : BitVec 32 := IntOp.divsi .vector b 32#32
     let n : BitVec 32 := Scalar.select
       (IntOp.andi (IntOp.cmpi .ne (IntOp.subi ((IntOp.cmpi .sgt b 0#32).setWidth 32) ((IntOp.cmpi .slt b 0#32).setWidth 32)) 1#32)
         (IntOp.cmpi .ne (IntOp.remsi .vector b 32#32) 0#32)) (IntOp.subi d 1#32) d
     let k : BitVec 32 := IntOp.addi n (BitVec.ofNat 32 (4 * q.val))
     Scalar.select (IntOp.cmpi .slt k 0#32) (IntOp.addi k 128#32) k) = BitVec.ofNat 32 (l.val / 32 + 4 * q.val) := by
  decide

/-- Lane `l` of chunk `q` takes scale `l / 32 + 4 q`. -/
theorem lanes_apply (q : Fin 9) (n : Fin 256) (l : Fin 128) :
    lanes (BitVec.ofNat 32 (4 * q.val)) (ix2 n l) = BitVec.ofNat 32 (l.val / 32 + 4 * q.val) := by
  rw [← lanes_word q l]
  unfold lanes k0_pay10
  have e : iota .tc S256x128 32 [1] iota_S256x128_d1_w32 (ix2 n l) = BitVec.ofNat 32 l.val := by
    simp [iota]
  simp only [select, cmpi, addi, subi, divsi, remsi, andi, extui, broadcast, e]
  rfl

/-- The row of scales: the first 36 are the words the scale bytes are shifted into. -/
theorem scales_apply (s : Vec Ideal S256x36 .i8) (n : Fin 256) (b : Fin 128) (k : Fin 36) (h : b.val = k.val) :
    (k0_pay9 s : FVec Ideal S256x128 .f32) (ix2 n b) = Exponent.power ((s (ix2 n k)).setWidth 32 - 127#32) := by
  have hax : ∀ a : Fin S256x36.rank, a.cast (rfl : S256x36.rank = S256x128.rank) ≠ (1 : Fin S256x128.rank) →
      ((ix2 n k : S256x36.Idx) a).val = ((ix2 n b : S256x128.Idx) (a.cast rfl)).val := fun a ha => by
    match a with
    | ⟨0, _⟩ => rfl
    | ⟨1, _⟩ => exact absurd rfl ha
  have hcat : concatenate S256x128 1
      [⟨S256x36, shli (extui 32 s natLt_8_32) (broadcast S256x36 23#32)⟩, ⟨S256x92, broadcast S256x92 0#32⟩]
      concatenates_S256x36_S256x92_S256x128_d1 (ix2 n b) = (s (ix2 n k)).setWidth 32 <<< 23 :=
    Eq.trans (concatenate_apply_piece (t := S256x128) 1 _ _ (ix2 n b) 0 (by simp) S256x36 _ rfl rfl 0 rfl (ix2 n k) hax
      (by simpa using h.symm)) rfl
  rw [← Exponent.byte_word, ← hcat]
  rfl

/-- A chunk's entry: the code at its column of the block times the scale of its lane. -/
theorem chunk_apply (w : Vec Ideal S256x1152 .fp8e4m3) (s : Vec Ideal S256x36 .i8) (q : Fin 9)
    (h : S256x1152.Slices ![0, 128 * q.val] S256x128) (n : Fin 256) (l : Fin 128) (k : Fin 1152) (b : Fin 36)
    (hk : k.val = 128 * q.val + l.val) (hb : b.val = k.val / 32) :
    chunk w s (BitVec.ofNat 32 (4 * q.val)) ![0, 128 * q.val] h (ix2 n l)
      = w (ix2 n k) * Exponent.power ((s (ix2 n b)).setWidth 32 - 127#32) := by
  unfold chunk
  rw [mulf_apply, extf_apply, truncf_apply, dynamicGather_apply, shapeCast_shapeCast]
  congr 1
  · unfold extractStridedSlice
    congr 1
    funext a
    match a with
    | ⟨0, _⟩ => exact Fin.ext (by simp)
    | ⟨1, _⟩ => exact Fin.ext (by simp [hk])
  · have hl := lanes_apply q n l
    have hq := q.isLt
    have hll := l.isLt
    rw [← scales_apply s n ⟨l.val / 32 + 4 * q.val, by omega⟩ b (by simp only; omega)]
    congr 1
    funext a
    match a with
    | ⟨0, _⟩ => rfl
    | ⟨1, _⟩ =>
      refine Fin.ext ?_
      change (lanes (BitVec.ofNat 32 (4 * q.val)) (ix2 n l)).toNat % 128 = l.val / 32 + 4 * q.val
      rw [hl, BitVec.toNat_ofNat]
      omega

/-! ## The block -/

/-- An entry of the decoded block: the code times the power of two named by the scale byte of its 32 columns. -/
theorem gateOf_apply (w : Vec Ideal S256x1152 .fp8e4m3) (s : Vec Ideal S256x36 .i8) (n : Fin 256) (k : Fin 1152) (b : Fin 36)
    (hb : b.val = k.val / 32) :
    gateOf w s (ix2 n k) = w (ix2 n k) * Exponent.power ((s (ix2 n b)).setWidth 32 - 127#32) := by
  have hk := k.isLt
  obtain ⟨q, hq⟩ : ∃ q : Fin 9, q.val = k.val / 128 := ⟨⟨k.val / 128, by omega⟩, rfl⟩
  obtain ⟨l, hl⟩ : ∃ l : Fin 128, l.val = k.val % 128 := ⟨⟨k.val % 128, by omega⟩, rfl⟩
  have hc : ∀ h : S256x1152.Slices ![0, 128 * q.val] S256x128, _ :=
    fun h => chunk_apply w s q h n l k b (by omega) hb
  have hax : ∀ a : Fin S256x128.rank, a.cast (rfl : S256x128.rank = S256x1152.rank) ≠ (1 : Fin S256x1152.rank) →
      ((ix2 n l : S256x128.Idx) a).val = ((ix2 n k : S256x1152.Idx) (a.cast rfl)).val := fun a ha => by
    match a with
    | ⟨0, _⟩ => rfl
    | ⟨1, _⟩ => exact absurd rfl ha
  have hpos : ∀ p : ℕ, p = k.val / 128 → 128 * p + l.val = k.val := fun p hp => by omega
  rw [gateOf_eq]
  fin_cases q
  · exact Eq.trans (concatenate_apply_piece (t := S256x1152) 1 _ _ (ix2 n k) 0 (by simp) S256x128 _ rfl rfl 0 rfl (ix2 n l) hax
      (hpos 0 hq)) (hc slices_S256x1152_o0_0_S256x128)
  · exact Eq.trans (concatenate_apply_piece (t := S256x1152) 1 _ _ (ix2 n k) 1 (by simp) S256x128 _ rfl rfl 128 rfl (ix2 n l) hax
      (hpos 1 hq)) (hc slices_S256x1152_o0_128_S256x128)
  · exact Eq.trans (concatenate_apply_piece (t := S256x1152) 1 _ _ (ix2 n k) 2 (by simp) S256x128 _ rfl rfl 256 rfl (ix2 n l) hax
      (hpos 2 hq)) (hc slices_S256x1152_o0_256_S256x128)
  · exact Eq.trans (concatenate_apply_piece (t := S256x1152) 1 _ _ (ix2 n k) 3 (by simp) S256x128 _ rfl rfl 384 rfl (ix2 n l) hax
      (hpos 3 hq)) (hc slices_S256x1152_o0_384_S256x128)
  · exact Eq.trans (concatenate_apply_piece (t := S256x1152) 1 _ _ (ix2 n k) 4 (by simp) S256x128 _ rfl rfl 512 rfl (ix2 n l) hax
      (hpos 4 hq)) (hc slices_S256x1152_o0_512_S256x128)
  · exact Eq.trans (concatenate_apply_piece (t := S256x1152) 1 _ _ (ix2 n k) 5 (by simp) S256x128 _ rfl rfl 640 rfl (ix2 n l) hax
      (hpos 5 hq)) (hc slices_S256x1152_o0_640_S256x128)
  · exact Eq.trans (concatenate_apply_piece (t := S256x1152) 1 _ _ (ix2 n k) 6 (by simp) S256x128 _ rfl rfl 768 rfl (ix2 n l) hax
      (hpos 6 hq)) (hc slices_S256x1152_o0_768_S256x128)
  · exact Eq.trans (concatenate_apply_piece (t := S256x1152) 1 _ _ (ix2 n k) 7 (by simp) S256x128 _ rfl rfl 896 rfl (ix2 n l) hax
      (hpos 7 hq)) (hc slices_S256x1152_o0_896_S256x128)
  · exact Eq.trans (concatenate_apply_piece (t := S256x1152) 1 _ _ (ix2 n k) 8 (by simp) S256x128 _ rfl rfl 1024 rfl (ix2 n l) hax
      (hpos 8 hq)) (hc slices_S256x1152_o0_1024_S256x128)

end Cert.KernelIdeal.Run

end
-- ==== Proof.Spec.lean ====
/-
The problem's arithmetic over the extended reals, entry by entry: a token's scale, its codes, a weight entry, and an
entry of the result. Both programs are shown to compute these.
-/
module

public import proofs.«01_k».proof.Proof.Exponent
public import Idealize.ShloMosaic.PureOps.Reduce
public import Idealize.ShloMosaic.PureOps.Ideal.Laws
public import Idealize.ShloMosaic.Lib.Pipeline.Value
public import Idealize.ShloMosaic.Lib.ValueIdx
public import Idealize.ShloMosaic.Lib.Pointwise.Contract

@[expose] public section

set_option maxRecDepth 16384

noncomputable section

namespace Cert.Spec

open Idealize.ShloMosaic hiding ix1 ix2 ix3
open Idealize.ShloMosaic.ValueIdx

/-- A float32 or bfloat16 array of `a` rows and `b` columns over the extended reals. -/
abbrev Mat (a b : ℕ) := (⟨2, ![a, b]⟩ : Shape).Idx → EReal

/-- The largest magnitude in row `r`. -/
def rowMax (x : Mat 1024 1152) (r : Fin 1024) : EReal :=
  (Finset.univ : Finset (Fin 1152)).fold max (Ideal.ofBits .f32 0xFF800000#32)
    fun k => max (x (ix2 r k)) (-(x (ix2 r k)))

/-- The exponent of row `r`'s scale. -/
def rowExp (x : Mat 1024 1152) (r : Fin 1024) : BitVec 32 := Exponent.rowExp (rowMax x r)

/-- Row `r`'s scale: two to its exponent. -/
def scale (x : Mat 1024 1152) (r : Fin 1024) : EReal := Exponent.power (rowExp x r)

/-- The code of entry `(r, k)`: the entry over the row's scale, clipped to the code format's range. -/
def code (x : Mat 1024 1152) (r : Fin 1024) (k : Fin 1152) : EReal :=
  min (Ideal.ofBits .f32 0x43E00000#32)
    (max (Ideal.ofBits .f32 0xC3E00000#32) (x (ix2 r k) * Exponent.power (0#32 - rowExp x r)))

/-- The block of 32 columns a column lies in. -/
def blockOf (k : Fin 1152) : Fin 36 := ⟨k.val / 32, by omega⟩

/-- An entry of a decoded weight: the code times two to its block's scale byte less 127. -/
def weight {N : ℕ} (w : Mat N 1152) (s : (⟨2, ![N, 36]⟩ : Shape).Idx → BitVec 8) (n : Fin N) (k : Fin 1152) : EReal :=
  w (ix2 n k) * Exponent.power ((s (ix2 n (blockOf k))).setWidth 32 - 127#32)

/-- An entry of a product of the tokens with a weight: the sum over the columns of codes times weight entries, times the
    token's scale. -/
def line {N : ℕ} (x : Mat 1024 1152) (w : Mat N 1152) (s : (⟨2, ![N, 36]⟩ : Shape).Idx → BitVec 8) (r : Fin 1024) (n : Fin N) :
    EReal :=
  (∑ k : Fin 1152, code x r k * weight w s n k) * scale x r

/-- The gated combination of two products. -/
def glu (g u : EReal) : EReal := g * Ideal.logistic g * u

/-! ## The row maximum -/

/-- The index of entry `k` of row `r`, as the reduction over columns names it. -/
theorem lift_row {N : ℕ} (h : (⟨2, ![1024, N]⟩ : Shape).Reduces [1] ⟨1, ![1024]⟩) (r : Fin 1024) (k : Fin N) :
    h.lift (ix1 r) k = ix2 r k := by
  funext a
  match a with
  | ⟨0, _⟩ => rfl
  | ⟨1, _⟩ => rfl

/-- The maximum over columns of the magnitudes is the row maximum. -/
theorem reduce_rowMax (x : FVec Ideal ⟨2, ![1024, 1152]⟩ .f32) (h : (⟨2, ![1024, 1152]⟩ : Shape).Reduces [1] ⟨1, ![1024]⟩)
    (hφ : FKind.Formats .f32) (hacc : (0xFF800000#32 : BitVec (FTy.f32).bits) = FKind.maximumf.neutral .f32 hφ) (r : Fin 1024) :
    multiReduction .maximumf [1] ⟨1, ![1024]⟩ (absf x) 0xFF800000#32 h hφ hacc (ix1 r) = rowMax x r := by
  rw [Ideal.multiReduction_maximumf_single]
  unfold rowMax
  congr 1
  funext k
  change max (x (h.lift (ix1 r) k)) (-(x (h.lift (ix1 r) k))) = _
  rw [lift_row h r k]

/-- A row of entries within the bfloat16 range has its maximum between zero and the range's end. -/
theorem rowMax_bounds (x : Mat 1024 1152) (hx : ∀ i, max (x i) (-(x i)) ≤ Ideal.ofBits .f32 0x7F7F0000#32) (r : Fin 1024) :
    0 ≤ rowMax x r ∧ rowMax x r ≤ Ideal.ofBits .f32 0x7F7F0000#32 := by
  have habs : ∀ y : EReal, 0 ≤ max y (-y) := fun y => by
    rcases le_total 0 y with h | h
    · exact le_max_of_le_left h
    · exact le_max_of_le_right (by simpa using h)
  unfold rowMax
  constructor
  · rw [Finset.le_fold_max]
    exact Or.inr ⟨0, Finset.mem_univ _, habs _⟩
  · rw [Finset.fold_max_le]
    refine ⟨?_, fun k _ => hx _⟩
    have : Ideal.ofBits .f32 0xFF800000#32 = ⊥ := by simp [Ideal.ofBits, Ideal.ieee]
    rw [this]
    exact bot_le

/-- For tokens within the bfloat16 range the exponent counted off the power words is the row's exponent, an integer
    between -125 and 127. -/
theorem rowExp_eq (x : Mat 1024 1152) (hx : ∀ i, max (x i) (-(x i)) ≤ Ideal.ofBits .f32 0x7F7F0000#32) (r : Fin 1024) :
    ∃ z : ℤ, -125 ≤ z ∧ z ≤ 127 ∧ Exponent.countExp (Exponent.scaled (rowMax x r)) = BitVec.ofInt 32 z
      ∧ rowExp x r = BitVec.ofInt 32 z :=
  Exponent.rowExp_eq (rowMax_bounds x hx r).1 (rowMax_bounds x hx r).2

end Cert.Spec

end
-- ==== Proof.Tokens.lean ====
/-
The kernel's token quantisation over the extended reals: the scales and codes it writes, and the copies it keeps for the
products, are the specified ones.
-/
module

public import proofs.«01_k».proof.Proof.RunFacts
public import proofs.«01_k».proof.Proof.Spec
public import Idealize.ShloMosaic.Lib.IndicatorCount

@[expose] public section

set_option maxRecDepth 16384

noncomputable section

namespace Cert.KernelIdeal.Run

open Cert.KernelIdeal Cert.KernelIdeal.Gen
open Idealize.ShloMosaic hiding ix1 ix2 ix3
open Idealize.ShloMosaic.ValueIdx

/-- A row vector of length 1024 seen as a column, entry by entry. -/
theorem column_apply {α : Type} (v : S1024.Idx → α) (r : Fin 1024) (z : Fin 1) :
    shapeCast S1024x1 v shapeCasts_S1024_S1024x1 (ix2 r z) = v (ix1 r) := by
  refine shapeCast_apply v _ _ _ ?_
  rw [Shape.rowMajor_val_one, Shape.rowMajor_val_two]
  have := z.isLt
  simp

/-- A column repeated along `N` columns, entry by entry. -/
theorem spread_apply {α : Type} {N : ℕ} (v : S1024x1.Idx → α) (h : S1024x1.Broadcasts ⟨2, ![1024, N]⟩) (r : Fin 1024) (k : Fin N) :
    broadcastTo ⟨2, ![1024, N]⟩ v h (ix2 r k) = v (ix2 r 0) := by
  refine broadcastTo_apply v h _ _ fun a => ?_
  match a with
  | ⟨0, _⟩ => rfl
  | ⟨1, _⟩ => rfl

/-- The power words of the kernel, entry by entry. -/
theorem powers_apply (z : Fin 1) (k : Fin 255) :
    (bitcastToFloat .f32 (shli (addi (iota .tc S1x255 32 [1] iota_S1x255_d1_w32) (broadcast S1x255 1#32)) (broadcast S1x255 23#32))
      : FVec Ideal S1x255 .f32) (ix2 z k) = Exponent.word (k.val + 1) := by
  have e : iota .tc S1x255 32 [1] iota_S1x255_d1_w32 (ix2 z k) = BitVec.ofNat 32 k.val := by
    simp [iota]
  unfold Exponent.word
  change Ideal.ofBits .f32 (IntOp.shli .vector (IntOp.addi (iota .tc S1x255 32 [1] iota_S1x255_d1_w32 (ix2 z k)) 1#32) 23#32) = _
  rw [e]
  change Ideal.ofBits .f32 ((BitVec.ofNat 32 k.val + BitVec.ofNat 32 1) <<< 23) = _
  rw [← BitVec.ofNat_add]

/-- The row's number of power words at or below its scaled maximum, as the kernel counts it. -/
theorem count_apply (t : FVec Ideal S1024x1 .f32) (p : FVec Ideal S1x255 .f32)
    (hp : ∀ (z : Fin 1) (k : Fin 255), p (ix2 z k) = Exponent.word (k.val + 1)) (hacc : 0#32 = IKind.add.neutral) (r : Fin 1024) :
    multiReductionI .add [1] S1024 (extui 32 (cmpf .oge (broadcastTo S1024x255 t broadcasts_S1024x1_S1024x255)
      (broadcastTo S1024x255 p broadcasts_S1x255_S1024x255)) natLt_1_32) 0#32 reduces_S1024x255_S1024 hacc (ix1 r)
      = BitVec.ofNat 32 (Exponent.count (t (ix2 r 0))) := by
  rw [multiReductionI_eq_fold, Shape.Reduces.fold_filter_drop_single]
  have e : (extui 32 (cmpf .oge (broadcastTo S1024x255 t broadcasts_S1024x1_S1024x255)
      (broadcastTo S1024x255 p broadcasts_S1x255_S1024x255)) natLt_1_32) ∘ reduces_S1024x255_S1024.lift (ix1 r)
      = fun k : Fin 255 => (BitVec.ofBool (decide (Exponent.word (k.val + 1) ≤ t (ix2 r 0)))).setWidth 32 := by
    refine funext fun (k : Fin 255) => ?_
    change (Ideal.cmp .oge (broadcastTo S1024x255 t broadcasts_S1024x1_S1024x255 (reduces_S1024x255_S1024.lift (ix1 r) k))
      (broadcastTo S1024x255 p broadcasts_S1x255_S1024x255 (reduces_S1024x255_S1024.lift (ix1 r) k))).setWidth 32 = _
    rw [Spec.lift_row reduces_S1024x255_S1024 r k, spread_apply]
    rw [broadcastTo_apply p broadcasts_S1x255_S1024x255 (ix2 r k) (ix2 0 k) fun a => by
      match a with
      | ⟨0, _⟩ => rfl
      | ⟨1, _⟩ => rfl]
    rw [hp]
    rfl
  rw [e]
  refine (IndicatorCount.fold_addi_setWidth_eq_card (fun k : Fin 255 => BitVec.ofBool (decide (Exponent.word (k.val + 1) ≤ t (ix2 r 0))))
    Finset.univ).trans ?_
  unfold Exponent.count
  congr 2
  refine Finset.filter_congr fun k _ => ?_
  by_cases h : Exponent.word (k.val + 1) ≤ t (ix2 r 0) <;> simp [h]

/-- The choice the kernel makes on the count. -/
theorem choose_count (c : BitVec 32) :
    Scalar.select (IntOp.ori (IntOp.cmpi .eq c 0#32) (IntOp.cmpi .eq c 255#32)) 0#32 (IntOp.subi c 126#32)
      = if c = 0#32 ∨ c = 255#32 then 0#32 else c - 126#32 := by
  by_cases h0 : c = 0#32
  · subst h0
    rfl
  · by_cases h1 : c = 255#32
    · subst h1
      rfl
    · rw [if_neg (by simp [h0, h1])]
      have e0 : IntOp.cmpi .eq c 0#32 = 0#1 := congrArg BitVec.ofBool (beq_eq_false_iff_ne.mpr h0)
      have e1 : IntOp.cmpi .eq c 255#32 = 0#1 := congrArg BitVec.ofBool (beq_eq_false_iff_ne.mpr h1)
      rw [e0, e1]
      rfl

/-- The row maxima as the kernel computes them, a column. -/
def maxima (x : Vec Ideal S1024x1152 .bf16) : FVec Ideal S1024x1 .f32 :=
  shapeCast S1024x1 (multiReduction .maximumf [1] S1024 (absf (k0_pay2 (F := Ideal) x)) 0xFF800000#32
    reduces_S1024x1152_S1024 (.inl rfl) rfl) shapeCasts_S1024_S1024x1

/-- The row maxima are the specified ones. -/
theorem maxima_apply (x : Vec Ideal S1024x1152 .bf16) (r : Fin 1024) (z : Fin 1) : maxima x (ix2 r z) = Spec.rowMax x r := by
  refine (column_apply _ r z).trans ?_
  refine (Spec.reduce_rowMax (k0_pay2 (F := Ideal) x) reduces_S1024x1152_S1024 (.inl rfl) rfl r).trans ?_
  unfold k0_pay2
  rw [shapeCast_self]
  rfl

/-- The scaled row maxima, a column. -/
def scaledMaxima (x : Vec Ideal S1024x1152 .bf16) : FVec Ideal S1024x1 .f32 :=
  mulf (maxima x) (broadcast S1024x1 (Scalar.ofBits (F := Ideal) .f32 0x3B124925#32))

/-- The scaled row maxima are the specified ones. -/
theorem scaledMaxima_apply (x : Vec Ideal S1024x1152 .bf16) (r : Fin 1024) :
    scaledMaxima x (ix2 r 0) = Exponent.scaled (Spec.rowMax x r) := by
  unfold scaledMaxima
  rw [mulf_apply, maxima_apply]
  rfl

/-- The counts of power words, a column. -/
def counts (x : Vec Ideal S1024x1152 .bf16) : IVec S1024x1 32 :=
  shapeCast S1024x1 (multiReductionI .add [1] S1024 (extui 32 (cmpf .oge (broadcastTo S1024x255 (scaledMaxima x) broadcasts_S1024x1_S1024x255)
      (broadcastTo S1024x255 (bitcastToFloat .f32 (shli (addi (iota .tc S1x255 32 [1] iota_S1x255_d1_w32) (broadcast S1x255 1#32))
        (broadcast S1x255 23#32)) : FVec Ideal S1x255 .f32) broadcasts_S1x255_S1024x255)) natLt_1_32) 0#32 reduces_S1024x255_S1024 rfl)
    shapeCasts_S1024_S1024x1

/-- The counts are the specified ones. -/
theorem counts_apply (x : Vec Ideal S1024x1152 .bf16) (r : Fin 1024) (z : Fin 1) :
    counts x (ix2 r z) = BitVec.ofNat 32 (Exponent.count (Exponent.scaled (Spec.rowMax x r))) := by
  refine (column_apply _ r z).trans ?_
  rw [← scaledMaxima_apply]
  exact count_apply (scaledMaxima x) _ powers_apply rfl r

/-- The row exponents the kernel computes. -/
theorem exponents_apply (x : Vec Ideal S1024x1152 .bf16) (r : Fin 1024) (z : Fin 1) :
    k0_pay3 (F := Ideal) x (ix2 r z) = Exponent.countExp (Exponent.scaled (Spec.rowMax x r)) := by
  unfold Exponent.countExp
  rw [← choose_count, ← counts_apply x r z]
  rfl

variable (x : Vec Ideal S1024x1152 .bf16) (hx : ∀ i, max (x i) (-(x i)) ≤ Ideal.ofBits .f32 0x7F7F0000#32)

include hx

/-- The scales the kernel writes are the specified ones. -/
theorem scaleOf_apply (r : Fin 1024) (z : Fin 1) : (scaleOf x : FVec Ideal S1024x1 .f32) (ix2 r z) = Spec.scale x r := by
  obtain ⟨e, h1, h2, h3, h4⟩ := Spec.rowExp_eq x hx r
  unfold Spec.scale
  rw [h4, ← Exponent.scale_word h1 h2, ← h3, ← exponents_apply x r z]
  rfl

/-- The codes the kernel writes are the specified ones. -/
theorem codesOf_apply (r : Fin 1024) (k : Fin 1152) : (codesOf x : FVec Ideal S1024x1152 .fp8e4m3) (ix2 r k) = Spec.code x r k := by
  obtain ⟨e, h1, h2, h3, h4⟩ := Spec.rowExp_eq x hx r
  unfold Spec.code
  rw [h4, ← Exponent.inverse_word h1 h2, ← h3, ← exponents_apply x r 0]
  unfold codesOf k0_pay6 k0_pay5
  rw [truncf_apply, minimumf_apply, maximumf_apply, mulf_apply, spread_apply]
  unfold k0_pay2
  rw [shapeCast_self]
  rfl

/-- The codes kept for the products are the codes written. -/
theorem xqOf_apply (r : Fin 1024) (k : Fin 1152) : (xqOf x : FVec Ideal S1024x1152 .bf16) (ix2 r k) = Spec.code x r k := by
  rw [← codesOf_apply x hx r k]
  unfold xqOf k0_pay7
  rw [shapeCast_self]
  rfl

/-- The scales kept for the products are the row's scale on every lane. -/
theorem xsOf_apply (r : Fin 1024) (l : Fin 128) : (xsOf x : FVec Ideal S1024x128 .f32) (ix2 r l) = Spec.scale x r := by
  rw [← scaleOf_apply x hx r 0]
  unfold xsOf k0_pay8
  rw [shapeCast_self, shapeCast_self, spread_apply]
  rfl

end Cert.KernelIdeal.Run

end
-- ==== Proof.KernelResult.lean ====
/-
The kernel's first result, entry by entry over the extended reals: the gated combination of the tokens' products with
the two decoded weights.
-/
module

public import proofs.«01_k».proof.Proof.KernelValue
public import proofs.«01_k».proof.Proof.Decode
public import proofs.«01_k».proof.Proof.Tokens

@[expose] public section

set_option maxRecDepth 16384

noncomputable section

namespace Cert.KernelIdeal.Run

open Cert.KernelIdeal Cert.KernelIdeal.Gen
open Idealize.ShloMosaic hiding ix1 ix2 ix3
open Idealize.ShloMosaic.ValueIdx

/-- The index of the codes' entry in a product. -/
theorem lhs_index (r : Fin 1024) (n : Fin 256) (k : Fin 1152) :
    dot_S1024x1152_S256x1152_S1024x256_1_1_0_0_n_n.lhsIdx (ix2 r n)
      (dot_S1024x1152_S256x1152_S1024x256_1_1_0_0_n_n.contrIdx₁ (a := 1) rfl (K := 1152) rfl k) = ix2 r k := by
  funext a
  match a with
  | ⟨0, _⟩ => rfl
  | ⟨1, _⟩ => rfl

/-- The index of the weight's entry in a product. -/
theorem rhs_index (r : Fin 1024) (n : Fin 256) (k : Fin 1152) :
    dot_S1024x1152_S256x1152_S1024x256_1_1_0_0_n_n.rhsIdx (ix2 r n)
      (dot_S1024x1152_S256x1152_S1024x256_1_1_0_0_n_n.contrIdx₁ (a := 1) rfl (K := 1152) rfl k) = ix2 n k := by
  funext a
  match a with
  | ⟨0, _⟩ => rfl
  | ⟨1, _⟩ => rfl

/-- The scales laid twice side by side: column `n` is lane `n` of the first copy or lane `n - 128` of the second. -/
theorem twoLanes_apply (xs : FVec Ideal S1024x128 .f32) (r : Fin 1024) (n : Fin 256) :
    (k0_pay39 xs : FVec Ideal S1024x256 .f32) (ix2 r n) = xs (ix2 r ⟨n.val % 128, Nat.mod_lt _ (by decide)⟩) := by
  unfold k0_pay39
  by_cases h : n.val < 128
  · exact concatenate_apply_piece (t := S1024x256) 1 _ _ (ix2 r n) 0 (by simp) S1024x128 xs rfl rfl 0 rfl
      (ix2 r ⟨n.val % 128, Nat.mod_lt _ (by decide)⟩)
      (fun a ha => match a, ha with
        | ⟨0, _⟩, _ => rfl
        | ⟨1, _⟩, ha => absurd rfl ha)
      (by show 0 + n.val % 128 = n.val; omega)
  · exact concatenate_apply_piece (t := S1024x256) 1 _ _ (ix2 r n) 1 (by simp) S1024x128 xs rfl rfl 128 rfl
      (ix2 r ⟨n.val % 128, Nat.mod_lt _ (by decide)⟩)
      (fun a ha => match a, ha with
        | ⟨0, _⟩, _ => rfl
        | ⟨1, _⟩, ha => absurd rfl ha)
      (by show 128 + n.val % 128 = n.val; omega)

section

variable (x : Vec Ideal S1024x1152 .bf16) (hx : ∀ i, max (x i) (-(x i)) ≤ Ideal.ofBits .f32 0x7F7F0000#32)

include hx

/-- An entry of one product of the tokens with a decoded block of a weight, scaled by token. -/
theorem line_apply (w : Vec Ideal S256x1152 .fp8e4m3) (s : Vec Ideal S256x36 .i8) (r : Fin 1024) (n : Fin 256) :
    (k0_pay40 (gateOf w s) (xqOf x) (xsOf x) : FVec Ideal S1024x256 .f32) (ix2 r n) = Spec.line x w s r n := by
  unfold k0_pay40
  rw [mulf_apply, twoLanes_apply, xsOf_apply x hx]
  simp only [matmul]
  rw [Ideal.matmul_constant_zero_apply, DotDims.sum_contr₁ _ (a := 1) rfl (K := 1152) rfl]
  simp only [lhs_index, rhs_index]
  unfold Spec.line
  refine congrArg (· * Spec.scale x r) (Finset.sum_congr rfl fun k _ => ?_)
  rw [xqOf_apply x hx, gateOf_apply w s n k (Spec.blockOf k) rfl]
  rfl

/-- An entry of the block of the result one point writes. -/
theorem yOf_apply (w1 : Vec Ideal S256x1152 .fp8e4m3) (s1 : Vec Ideal S256x36 .i8) (w2 : Vec Ideal S256x1152 .fp8e4m3)
    (s2 : Vec Ideal S256x36 .i8) (r : Fin 1024) (n : Fin 256) :
    (yOf w1 s1 w2 s2 (xqOf x) (xsOf x) : FVec Ideal S1024x256 .bf16) (ix2 r n)
      = Spec.glu (Spec.line x w1 s1 r n) (Spec.line x w2 s2 r n) := by
  unfold Spec.glu
  rw [← line_apply x hx w1 s1 r n, ← line_apply x hx w2 s2 r n]
  unfold yOf
  rw [upOf_eq]
  rfl

end

/-- A product's entry depends only on the weight's row and its row of scale bytes. -/
theorem line_congr {N M : ℕ} (x : Spec.Mat 1024 1152) (w : Spec.Mat N 1152) (s : (⟨2, ![N, 36]⟩ : Shape).Idx → BitVec 8)
    (w' : Spec.Mat M 1152) (s' : (⟨2, ![M, 36]⟩ : Shape).Idx → BitVec 8) (r : Fin 1024) (n : Fin N) (n' : Fin M)
    (hw : ∀ k, w (ix2 n k) = w' (ix2 n' k)) (hs : ∀ b, s (ix2 n b) = s' (ix2 n' b)) :
    Spec.line x w s r n = Spec.line x w' s' r n' := by
  unfold Spec.line Spec.weight
  simp only [hw, hs]

variable (m : (ℓ : Loc nD τ sig) → Buf (Elt Ideal) ℓ)

open Idealize.ShloMosaic.TcCoe in
/-- An entry of the first result array after a run: the gated combination of the products with the two whole weights. -/
theorem Y_apply (c : Dev nD) (hx : ∀ i, max (tokens m c i) (-(tokens m c i)) ≤ Ideal.ofBits .f32 0x7F7F0000#32)
    (r : Fin 1024) (j : Fin 20224) :
    (Y m c : FVec Ideal S1024x20224 .bf16) (ix2 r j)
      = Spec.glu (Spec.line (tokens m c) (m ((c : Thread nD τ).loc main_arg1)) (m ((c : Thread nD τ).loc main_arg2)) r j)
          (Spec.line (tokens m c) (m ((c : Thread nD τ).loc main_arg3)) (m ((c : Thread nD τ).loc main_arg4)) r j) := by
  have hj : rowOf (ptOf j) (colOf j) = j := Fin.ext (by show j.val / 256 * 256 + j.val % 256 = j.val; omega)
  have e : (Y m c : FVec Ideal S1024x20224 .bf16) (ix2 r j) = yBlk m c (ptOf j) (ix2 r (colOf j)) := rfl
  rw [e]
  unfold yBlk
  rw [xBlk_eq]
  refine (yOf_apply (tokens m c) hx _ _ _ _ r (colOf j)).trans ?_
  congr 1
  · exact line_congr _ _ _ _ _ r _ _ (fun k => (iblk1_apply m c (ptOf j) (colOf j) k).trans (by rw [hj]))
      (fun k => (iblk2_apply m c (ptOf j) (colOf j) k).trans (by rw [hj]))
  · exact line_congr _ _ _ _ _ r _ _ (fun k => (iblk3_apply m c (ptOf j) (colOf j) k).trans (by rw [hj]))
      (fun k => (iblk4_apply m c (ptOf j) (colOf j) k).trans (by rw [hj]))

end Cert.KernelIdeal.Run

end
-- ==== Proof.RefValue.lean ====
/-
The reference's arithmetic over the extended reals, entry by entry: its scales, codes, decoded weights and result are the
specified ones.
-/
module

public import proofs.«01_k».proof.Proof.Gen.ReferenceIdeal.Skeleton
public import proofs.«01_k».proof.Proof.Spec

@[expose] public section

set_option maxRecDepth 16384

noncomputable section

namespace Cert.ReferenceIdeal.Run

open Cert.ReferenceIdeal Cert.ReferenceIdeal.Gen
open Idealize.ShloMosaic hiding ix1 ix2 ix3
open Idealize.ShloMosaic.ValueIdx

/-- Choosing by a comparison of extended reals, or of words, is a case distinction. -/
theorem select_ofBool {α : Type} (p : Prop) [Decidable p] (a b : α) :
    Scalar.select (BitVec.ofBool (decide p)) a b = if p then a else b := by
  by_cases h : p <;> simp [h, Scalar.select]

/-- Choosing by a word comparison is a case distinction on its truth value. -/
theorem select_bool {α : Type} (c : Bool) (a b : α) : Scalar.select (BitVec.ofBool c) a b = if c then a else b := by
  cases c <;> rfl

/-- The reference's two-way choice around a power of two is the power. -/
theorem power_eq (e : BitVec 32) :
    Scalar.select (IntOp.cmpi .sgt e 127#32) (Ideal.ofBits .f32 0x7F800000#32)
      (Scalar.select (IntOp.cmpi .slt e 4294967170#32) (Ideal.ofBits .f32 0x00000000#32) (Ideal.exp2 ((e.toInt : ℝ) : EReal)))
      = Exponent.power e := by
  unfold Exponent.power IntOp.cmpi
  rw [select_bool, select_bool]

/-- A row vector of length 1024 seen as a column, entry by entry. -/
theorem column_apply {α : Type} (v : S1024.Idx → α) (r : Fin 1024) (z : Fin 1) :
    shapeCast S1024x1 v shapeCasts_S1024_S1024x1 (ix2 r z) = v (ix1 r) := by
  refine shapeCast_apply v _ _ _ ?_
  rw [Shape.rowMajor_val_one, Shape.rowMajor_val_two]
  have := z.isLt
  simp

/-- A column repeated along `N` columns, entry by entry. -/
theorem spread_apply {α : Type} {N : ℕ} (v : S1024x1.Idx → α) (h : S1024x1.Broadcasts ⟨2, ![1024, N]⟩) (r : Fin 1024) (k : Fin N) :
    broadcastTo ⟨2, ![1024, N]⟩ v h (ix2 r k) = v (ix2 r 0) := by
  refine broadcastTo_apply v h _ _ fun a => ?_
  match a with
  | ⟨0, _⟩ => rfl
  | ⟨1, _⟩ => rfl

/-! ## The tokens -/

/-- The row maxima as the reference computes them, a column. -/
def maxima (x : Vec Ideal S1024x1152 .bf16) : FVec Ideal S1024x1 .f32 :=
  shapeCast S1024x1 (multiReduction .maximumf [1] S1024 (absf (k0_pay2 (F := Ideal) x)) 0xFF800000#32
    reduces_S1024x1152_S1024 (.inl rfl) rfl) shapeCasts_S1024_S1024x1

/-- The row maxima are the specified ones. -/
theorem maxima_apply (x : Vec Ideal S1024x1152 .bf16) (r : Fin 1024) (z : Fin 1) : maxima x (ix2 r z) = Spec.rowMax x r := by
  refine (column_apply _ r z).trans ?_
  refine (Spec.reduce_rowMax (k0_pay2 (F := Ideal) x) reduces_S1024x1152_S1024 (.inl rfl) rfl r).trans ?_
  unfold k0_pay2
  rw [shapeCast_self]
  rfl

/-- The exponent of one row's maximum, as the reference's comparisons and choices. -/
theorem rowExp_select (a : EReal) :
    Scalar.select (Ideal.cmp .oeq a (Ideal.ofBits .f32 0x00000000#32)) 0#32
      (Scalar.select (Ideal.cmp .olt (a * Ideal.ofBits .f32 0x3B124925#32) (Ideal.ofBits .f32 0x00800000#32)) 0#32
        (Ideal.fptosi 32 (Ideal.liftRound Int.floor (Ideal.div (Ideal.log (a * Ideal.ofBits .f32 0x3B124925#32))
          (Ideal.log (Ideal.ofBits .f32 0x40000000#32))) + Ideal.ofBits .f32 0x3F800000#32)))
      = Exponent.rowExp a := by
  unfold Exponent.rowExp Exponent.logExp Exponent.scaled Ideal.cmp
  simp only [select_ofBool]

/-- The row exponents as the reference computes them from the row maxima. -/
def exponents (t : FVec Ideal S1024x1 .f32) : IVec S1024x1 32 :=
  select (cmpf .oeq t (broadcast S1024x1 (Scalar.ofBits .f32 0x00000000#32))) (broadcast S1024x1 0#32)
    (select (cmpf .olt (mulf t (broadcast S1024x1 (Scalar.ofBits .f32 0x3B124925#32))) (broadcast S1024x1 (Scalar.ofBits .f32 0x00800000#32)))
      (broadcast S1024x1 0#32)
      (fptosi 32 (addf (floor (divf (log (mulf t (broadcast S1024x1 (Scalar.ofBits .f32 0x3B124925#32))))
        (broadcast S1024x1 (Scalar.log (Scalar.ofBits .f32 0x40000000#32))))) (broadcast S1024x1 (Scalar.ofBits .f32 0x3F800000#32)))))

/-- The row exponents are computed from the row maxima. -/
theorem exponents_maxima (x : Vec Ideal S1024x1152 .bf16) : k0_pay3 (F := Ideal) x = exponents (maxima x) := rfl

/-- One row's exponent is that of its maximum. -/
theorem exponents_entry (t : FVec Ideal S1024x1 .f32) (i : S1024x1.Idx) : exponents t i = Exponent.rowExp (t i) := by
  refine Eq.trans ?_ (rowExp_select (t i))
  unfold exponents
  rw [select_apply, select_apply, cmpf_apply, cmpf_apply, mulf_apply, broadcast_apply, broadcast_apply, broadcast_apply, broadcast_apply]
  rfl

/-- The row exponents. -/
theorem exponents_apply (x : Vec Ideal S1024x1152 .bf16) (r : Fin 1024) (z : Fin 1) :
    k0_pay3 (F := Ideal) x (ix2 r z) = Spec.rowExp x r := by
  rw [exponents_maxima, exponents_entry, maxima_apply]
  rfl

/-- The scales are the specified ones. -/
theorem scales_apply (x : Vec Ideal S1024x1152 .bf16) (r : Fin 1024) (z : Fin 1) :
    (k0_pay4 x : FVec Ideal S1024x1 .f32) (ix2 r z) = Spec.scale x r := by
  unfold Spec.scale
  rw [← power_eq, ← exponents_apply x r z]
  rfl

/-- The codes are the specified ones. -/
theorem codes_apply (x : Vec Ideal S1024x1152 .bf16) (r : Fin 1024) (k : Fin 1152) :
    (k0_pay9 (k0_pay2 x) (k0_pay6 x) (k0_pay7 x) (k0_pay8 x) (Scalar.ofBits .f32 0x00000000#32) : FVec Ideal S1024x1152 .fp8e4m3)
      (ix2 r k) = Spec.code x r k := by
  unfold Spec.code
  rw [← power_eq, ← exponents_apply x r 0]
  unfold k0_pay9
  rw [truncf_apply, minimumf_apply, maximumf_apply, mulf_apply, spread_apply]
  unfold k0_pay2
  rw [shapeCast_self]
  rfl

/-! ## The weights -/

/-- A weight matrix seen as blocks of 32 columns, entry by entry. -/
theorem blocks_apply {α : Type} (v : S20224x1152.Idx → α) (n : Fin 20224) (b : Fin 36) (l : Fin 32) (k : Fin 1152)
    (hk : k.val = b.val * 32 + l.val) :
    shapeCast S20224x36x32 v shapeCasts_S20224x1152_S20224x36x32 (ix3 n b l) = v (ix2 n k) := by
  refine shapeCast_apply v _ _ _ ?_
  rw [Shape.rowMajor_val_two, Shape.rowMajor_val_three]
  change n.val * 1152 + k.val = (n.val * 36 + b.val) * 32 + l.val
  omega

/-- The blocks put back side by side, entry by entry. -/
theorem unblocks_apply {α : Type} (v : S20224x36x32.Idx → α) (n : Fin 20224) (b : Fin 36) (l : Fin 32) (k : Fin 1152)
    (hk : k.val = b.val * 32 + l.val) :
    shapeCast S20224x1152 v shapeCasts_S20224x36x32_S20224x1152 (ix2 n k) = v (ix3 n b l) := by
  refine shapeCast_apply v _ _ _ ?_
  rw [Shape.rowMajor_val_two, Shape.rowMajor_val_three]
  change (n.val * 36 + b.val) * 32 + l.val = n.val * 1152 + k.val
  omega

/-- The block scales repeated along their columns, entry by entry. -/
theorem blockScales_apply {α : Type} (v : S20224x36.Idx → α) (n : Fin 20224) (b : Fin 36) (l : Fin 32) :
    broadcastTo S20224x36x32 (shapeCast S20224x36x1 v shapeCasts_S20224x36_S20224x36x1) broadcasts_S20224x36x1_S20224x36x32 (ix3 n b l)
      = v (ix2 n b) := by
  rw [broadcastTo_apply _ broadcasts_S20224x36x1_S20224x36x32 (ix3 n b l) (ix3 n b 0) fun a => by
    match a with
    | ⟨0, _⟩ => rfl
    | ⟨1, _⟩ => rfl
    | ⟨2, _⟩ => rfl]
  refine shapeCast_apply v _ _ _ ?_
  rw [Shape.rowMajor_val_two, Shape.rowMajor_val_three]
  simp

/-- A decoded weight's entries are the specified ones. -/
theorem weights_apply (w : Vec Ideal S20224x1152 .fp8e4m3) (s : Vec Ideal S20224x36 .i8) (n : Fin 20224) (k : Fin 1152) :
    (k0_pay11 w s : FVec Ideal S20224x1152 .bf16) (ix2 n k) = Spec.weight w s n k := by
  unfold k0_pay11
  have hk : k.val = (Spec.blockOf k).val * 32 + (⟨k.val % 32, by omega⟩ : Fin 32).val := by
    simp only [Spec.blockOf]
    omega
  rw [unblocks_apply _ n (Spec.blockOf k) ⟨k.val % 32, by omega⟩ k hk, mulf_apply, blocks_apply _ n (Spec.blockOf k) _ k hk,
    blockScales_apply]
  unfold Spec.weight
  rw [← power_eq]
  rfl

/-! ## The result -/

/-- The index of the tokens' entry in a product. -/
theorem lhs_index (r : Fin 1024) (n : Fin 20224) (k : Fin 1152) :
    dot_S1024x1152_S20224x1152_S1024x20224_1_1_0_0_n_n.lhsIdx (ix2 r n)
      (dot_S1024x1152_S20224x1152_S1024x20224_1_1_0_0_n_n.contrIdx₁ (a := 1) rfl (K := 1152) rfl k) = ix2 r k := by
  funext a
  match a with
  | ⟨0, _⟩ => rfl
  | ⟨1, _⟩ => rfl

/-- The index of the weight's entry in a product. -/
theorem rhs_index (r : Fin 1024) (n : Fin 20224) (k : Fin 1152) :
    dot_S1024x1152_S20224x1152_S1024x20224_1_1_0_0_n_n.rhsIdx (ix2 r n)
      (dot_S1024x1152_S20224x1152_S1024x20224_1_1_0_0_n_n.contrIdx₁ (a := 1) rfl (K := 1152) rfl k) = ix2 n k := by
  funext a
  match a with
  | ⟨0, _⟩ => rfl
  | ⟨1, _⟩ => rfl

/-- A product of tokens and weight, scaled by token, entry by entry. -/
theorem line_apply (q : FVec Ideal S1024x1152 .bf16) (w : FVec Ideal S20224x1152 .bf16) (c : FVec Ideal S1024x1 .f32) (r : Fin 1024)
    (n : Fin 20224) :
    mulf (matmul dot_S1024x1152_S20224x1152_S1024x20224_1_1_0_0_n_n none q w (constant S1024x20224 .f32 0x00000000#32))
      (broadcastTo S1024x20224 c broadcasts_S1024x1_S1024x20224) (ix2 r n)
      = (∑ k : Fin 1152, q (ix2 r k) * w (ix2 n k)) * c (ix2 r 0) := by
  rw [mulf_apply, spread_apply]
  simp only [matmul]
  rw [Ideal.matmul_constant_zero_apply, DotDims.sum_contr₁ _ (a := 1) rfl (K := 1152) rfl]
  simp only [lhs_index, rhs_index]

/-- The result's entries are the specified ones. -/
theorem result_apply (x : Vec Ideal S1024x1152 .bf16) (w1 : Vec Ideal S20224x1152 .fp8e4m3) (s1 : Vec Ideal S20224x36 .i8)
    (w2 : Vec Ideal S20224x1152 .fp8e4m3) (s2 : Vec Ideal S20224x36 .i8) (r : Fin 1024) (n : Fin 20224) :
    (k0_pay1 (k0_pay4 x) (k0_pay10 (k0_pay2 x) (k0_pay6 x) (k0_pay7 x) (k0_pay8 x) (Scalar.ofBits .f32 0x00000000#32))
      (k0_pay11 w1 s1) w2 (k0_pay12 s2) (k0_pay13 s2) 4294967170#32 : FVec Ideal S1024x20224 .bf16) (ix2 r n)
      = Spec.glu (Spec.line x w1 s1 r n) (Spec.line x w2 s2 r n) := by
  have hl : ∀ w s, mulf (matmul dot_S1024x1152_S20224x1152_S1024x20224_1_1_0_0_n_n none
      (k0_pay10 (k0_pay2 x) (k0_pay6 x) (k0_pay7 x) (k0_pay8 x) (Scalar.ofBits .f32 0x00000000#32) : FVec Ideal S1024x1152 .bf16)
      (k0_pay11 w s) (constant S1024x20224 .f32 0x00000000#32)) (broadcastTo S1024x20224 (k0_pay4 x) broadcasts_S1024x1_S1024x20224)
      (ix2 r n) = Spec.line x w s r n := fun w s => by
    rw [line_apply]
    unfold Spec.line
    rw [scales_apply]
    refine congrArg (· * Spec.scale x r) (Finset.sum_congr rfl fun k _ => ?_)
    rw [weights_apply, ← codes_apply x r k]
    rfl
  unfold Spec.glu
  rw [← hl w1 s1, ← hl w2 s2]
  rfl

end Cert.ReferenceIdeal.Run

end
-- ==== Proof.RefRun.lean ====
/-
What the reference's three result arrays hold after a run, in terms of its argument arrays: its one call works on whole
arrays, so each result is the body's value at the arguments.
-/
module

public import proofs.«01_k».proof.Proof.Gen.ReferenceIdeal.Value
public import proofs.«01_k».proof.Proof.RefValue
public import Idealize.ShloMosaic.Lib.StableHlo.RunHlo

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- The array of all tokens, one per row, as the call finds it. -/
abbrev tokens (c : Dev nD) : Vec F S1024x1152 .bf16 :=
  shapeCast S1024x1152 (m ((c : Thread nD τ).loc main_arg0)) shapeCasts_S4x256x1152_S1024x1152

/-- The tokens are the first argument, reshaped on the host. -/
theorem V_tokens (c : Dev nD) : V m c main_v0 = tokens m c := by
  unfold_abbrev_sides
  after_results
  rfl

/-- The call's one point. -/
def t₀ : Fin cfg0.N := ⟨0, by decide⟩

/-! ## The blocks are the whole arrays -/

/-- The first window's block is the array of tokens. -/
theorem iblk0_eq (c : Dev nD) : iblk m c 0 t₀ = tokens m c := by
  have hz : (fun a => (win0_0.index t₀) a * main_v0.ty.shape.size a) = fun _ => 0 := funext fun a => by fin_cases a <;> decide
  have hr := fun f => Memref.read_access_unit_zero (Elt F) main_v0 hz (fun a => by fin_cases a <;> decide) f
  rw [← V_tokens]
  unfold iblk
  rw [hr]

/-- The second window's block is the gate codes. -/
theorem iblk1_eq (c : Dev nD) : iblk m c 1 t₀ = m ((c : Thread nD τ).loc main_arg1) := by
  have hz : (fun a => (win0_1.index t₀) a * main_arg1.ty.shape.size a) = fun _ => 0 := funext fun a => by fin_cases a <;> decide
  have hr := fun f => Memref.read_access_unit_zero (Elt F) main_arg1 hz (fun a => by fin_cases a <;> decide) f
  rw [← V_main_arg1 m c]
  unfold iblk
  rw [hr]

/-- The third window's block is the gate scale bytes. -/
theorem iblk2_eq (c : Dev nD) : iblk m c 2 t₀ = m ((c : Thread nD τ).loc main_arg2) := by
  have hz : (fun a => (win0_2.index t₀) a * main_arg2.ty.shape.size a) = fun _ => 0 := funext fun a => by fin_cases a <;> decide
  have hr := fun f => Memref.read_access_unit_zero (Elt F) main_arg2 hz (fun a => by fin_cases a <;> decide) f
  rw [← V_main_arg2 m c]
  unfold iblk
  rw [hr]

/-- The fourth window's block is the up codes. -/
theorem iblk3_eq (c : Dev nD) : iblk m c 3 t₀ = m ((c : Thread nD τ).loc main_arg3) := by
  have hz : (fun a => (win0_3.index t₀) a * main_arg3.ty.shape.size a) = fun _ => 0 := funext fun a => by fin_cases a <;> decide
  have hr := fun f => Memref.read_access_unit_zero (Elt F) main_arg3 hz (fun a => by fin_cases a <;> decide) f
  rw [← V_main_arg3 m c]
  unfold iblk
  rw [hr]

/-- The fifth window's block is the up scale bytes. -/
theorem iblk4_eq (c : Dev nD) : iblk m c 4 t₀ = m ((c : Thread nD τ).loc main_arg4) := by
  have hz : (fun a => (win0_4.index t₀) a * main_arg4.ty.shape.size a) = fun _ => 0 := funext fun a => by fin_cases a <;> decide
  have hr := fun f => Memref.read_access_unit_zero (Elt F) main_arg4 hz (fun a => by fin_cases a <;> decide) f
  rw [← V_main_arg4 m c]
  unfold iblk
  rw [hr]

/-! ## The body's values -/

/-- The scales of the tokens `x`. -/
abbrev scaleOf (x : Vec F S1024x1152 .bf16) : Vec F S1024x1 .f32 := k0_pay4 x

/-- The codes of the tokens `x`. -/
abbrev codesOf (x : Vec F S1024x1152 .bf16) : Vec F S1024x1152 .fp8e4m3 :=
  k0_pay9 (k0_pay2 x) (k0_pay6 x) (k0_pay7 x) (k0_pay8 x) (Scalar.ofBits .f32 0x00000000#32)

/-- The result of the tokens `x`, the gate weight `w1, s1` and the up weight `w2, s2`. -/
abbrev yOf (x : Vec F S1024x1152 .bf16) (w1 : Vec F S20224x1152 .fp8e4m3) (s1 : Vec F S20224x36 .i8)
    (w2 : Vec F S20224x1152 .fp8e4m3) (s2 : Vec F S20224x36 .i8) : Vec F S1024x20224 .bf16 :=
  k0_pay1 (k0_pay4 x) (k0_pay10 (k0_pay2 x) (k0_pay6 x) (k0_pay7 x) (k0_pay8 x) (Scalar.ofBits .f32 0x00000000#32))
    (k0_pay11 w1 s1) w2 (k0_pay12 s2) (k0_pay13 s2) 4294967170#32

variable (x0 : Vec F S1024x1152 .bf16) (x1 : Vec F S20224x1152 .fp8e4m3) (x2 : Vec F S20224x36 .i8)
  (x3 : Vec F S20224x1152 .fp8e4m3) (x4 : Vec F S20224x36 .i8)

/-- The store of the result leaves its value. -/
theorem out5_eq : out0_5 x0 x1 x2 x3 x4 = yOf x0 x1 x2 x3 x4 := by
  have hz : (![0, 0] : Fin 2 → Nat) = fun _ => 0 := funext fun a => by fin_cases a <;> rfl
  unfold_out out0_5
  rw [View.canon_unit_zero (S := S1024x20224) hz, View.ld_unit_zero (S := S1024x1152) hz, View.ld_unit_zero (S := S20224x1152) hz,
    View.ld_unit_zero (S := S20224x1152) hz, View.ld_unit_zero (S := S20224x36) hz, View.ld_unit_zero (S := S20224x36) hz]

/-- The store of the codes leaves their value. -/
theorem out6_eq : out0_6 x0 x1 x2 x3 x4 = codesOf x0 := by
  have hz : (![0, 0] : Fin 2 → Nat) = fun _ => 0 := funext fun a => by fin_cases a <;> rfl
  unfold_out out0_6
  rw [View.canon_unit_zero (S := S1024x1152) hz, View.ld_unit_zero (S := S1024x1152) hz]

/-- The store of the scales leaves their value. -/
theorem out7_eq : out0_7 x0 x1 x2 x3 x4 = scaleOf x0 := by
  have hz : (![0, 0] : Fin 2 → Nat) = fun _ => 0 := funext fun a => by fin_cases a <;> rfl
  unfold_out out0_7
  rw [View.canon_unit_zero (S := S1024x1) hz, View.ld_unit_zero (S := S1024x1152) hz]

/-! ## The arrays after the run -/

/-- The first result array. -/
theorem final5 (c : Dev nD) : (dats m 0 c).arrAt 5 cfg0.N
    = yOf (tokens m c) (m ((c : Thread nD τ).loc main_arg1)) (m ((c : Thread nD τ).loc main_arg2))
        (m ((c : Thread nD τ).loc main_arg3)) (m ((c : Thread nD τ).loc main_arg4)) := by
  have ho := Value.blocks5 m c t₀ (by decide)
  have hz : (fun a => (win0_5.index t₀) a * main_v1_0.ty.shape.size a) = fun _ => 0 := funext fun a => by fin_cases a <;> decide
  have hr := fun f => Memref.read_access_unit_zero (Elt F) main_v1_0 hz (fun a => by fin_cases a <;> decide) f
  rw [hr] at ho
  rw [ho, Value.flushed5, out5_eq, iblk0_eq, iblk1_eq, iblk2_eq, iblk3_eq, iblk4_eq]
  rfl

/-- The second result array. -/
theorem final6 (c : Dev nD) : (dats m 0 c).arrAt 6 cfg0.N = codesOf (tokens m c) := by
  have ho := Value.blocks6 m c t₀ (by decide)
  have hz : (fun a => (win0_6.index t₀) a * main_v1_1.ty.shape.size a) = fun _ => 0 := funext fun a => by fin_cases a <;> decide
  have hr := fun f => Memref.read_access_unit_zero (Elt F) main_v1_1 hz (fun a => by fin_cases a <;> decide) f
  rw [hr] at ho
  rw [ho, Value.flushed6, out6_eq, iblk0_eq]
  rfl

/-- The third result array. -/
theorem final7 (c : Dev nD) : (dats m 0 c).arrAt 7 cfg0.N = scaleOf (tokens m c) := by
  have ho := Value.blocks7 m c t₀ (by decide)
  have hz : (fun a => (win0_7.index t₀) a * main_v1_2.ty.shape.size a) = fun _ => 0 := funext fun a => by fin_cases a <;> decide
  have hr := fun f => Memref.read_access_unit_zero (Elt F) main_v1_2 hz (fun a => by fin_cases a <;> decide) f
  rw [hr] at ho
  rw [ho, Value.flushed7, out7_eq, iblk0_eq]
  rfl

/-- Every run of the reference ends with the three results at these arrays and the arguments unchanged. -/
theorem run : θ_run defs (onTc (τ := τ) (main (F := F))) ⟨m, fun _ => 0, ρ⟩ fun r => ∀ c : Dev nD,
      r.2.mem ((c : Thread nD τ).loc main_v1_0)
        = yOf (tokens m c) (m ((c : Thread nD τ).loc main_arg1)) (m ((c : Thread nD τ).loc main_arg2))
            (m ((c : Thread nD τ).loc main_arg3)) (m ((c : Thread nD τ).loc main_arg4))
      ∧ r.2.mem ((c : Thread nD τ).loc main_v1_1) = codesOf (tokens m c)
      ∧ r.2.mem ((c : Thread nD τ).loc main_v1_2) = scaleOf (tokens m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c),
    (h c).2.2.2⟩) (Value.run_blocks m ρ)

end Cert.ReferenceIdeal.Run

end
-- ==== Proof.lean ====
/-
The proof of `Cert.Claim` (proof/Defs.lean). The three programs' frames: the kernel's is Proof/KernelRun.lean's, since its
body works differently at the first grid point, and Proof/KernelFrame.lean's at words; the reference's is the generated one.
The value claim: both programs' results are, entry by entry, the arithmetic Proof/Spec.lean specifies (Proof/Tokens.lean and
Proof/KernelResult.lean for the kernel, Proof/RefValue.lean for the reference).
-/
module

public import proofs.«01_k».proof.Defs
public import proofs.«01_k».proof.Proof.Gen.Kernel
public import proofs.«01_k».proof.Proof.Gen.Pre_in_bf16_range
public import proofs.«01_k».proof.Proof.KernelFrame
public import proofs.«01_k».proof.Proof.KernelResult
public import proofs.«01_k».proof.Proof.RefRun

@[expose] public section

noncomputable section

namespace Cert.Proof

open Idealize.ShloMosaic hiding ix1 ix2 ix3
open Idealize.ShloMosaic.ValueIdx Idealize.SL.Sem

/-- An index of a two-axis array is the pair of its coordinates. -/
theorem idx_pair {a b : ℕ} (i : (⟨2, ![a, b]⟩ : Shape).Idx) : i = ix2 (i 0) (i 1) := by
  funext k
  match k with
  | ⟨0, _⟩ => rfl
  | ⟨1, _⟩ => rfl

/-- Where the precondition's comparison holds, the magnitude is at most the largest finite bfloat16. -/
theorem le_of_cmp (a b : EReal) (h : Ideal.cmp .ole a b = 1#1) : a ≤ b := by
  by_contra hn
  have : Ideal.cmp .ole a b = 0#1 := congrArg BitVec.ofBool (decide_eq_false hn)
  rw [this] at h
  exact absurd h (by decide)

/-- Under the precondition every token's entries are within the bfloat16 range. -/
theorem tokens_range (m : (ℓ : Loc Cert.KernelIdeal.nD Cert.KernelIdeal.τ Cert.KernelIdeal.sig) → Buf (Elt Ideal) ℓ)
    (hpre : Cert.Pre_KernelIdeal_in_bf16_range (hPre_in_bf16_range := Cert.Pre_in_bf16_range.Gen.facts) m)
    (c : Dev Cert.KernelIdeal.nD) (i : Cert.KernelIdeal.S1024x1152.Idx) :
    max (Cert.KernelIdeal.Run.tokens m c i) (-(Cert.KernelIdeal.Run.tokens m c i)) ≤ Ideal.ofBits .f32 0x7F7F0000#32 := by
  have hp : ∀ (a : FVec Ideal Cert.KernelIdeal.S4x256x1152 .bf16) (k : Cert.KernelIdeal.S4x256x1152.Idx),
      Ideal.cmp .ole (max (a k) (-(a k))) (Ideal.ofBits .f32 0x7F7F0000#32) = 1#1 →
        max (a k) (-(a k)) ≤ Ideal.ofBits .f32 0x7F7F0000#32 := fun a k h => le_of_cmp _ _ h
  exact hp (m ((c.tc : Thread Cert.KernelIdeal.nD Cert.KernelIdeal.τ).loc Cert.KernelIdeal.main_arg0)) _ (congrFun (hpre c) _)

/-- The value claim: from equal arguments within the precondition the kernel and the reference end with equal results. -/
theorem algebraic : Cert.algebraic_KernelIdeal_ReferenceIdeal_pre_in_bf16_range (hKernelIdeal := Cert.KernelIdeal.Gen.facts)
    (hReferenceIdeal := Cert.ReferenceIdeal.Gen.facts) (hPre_in_bf16_range := Cert.Pre_in_bf16_range.Gen.facts) := by
  intro m g m' g' hpre hagree
  refine ⟨Cert.KernelIdeal.Run.Y m, fun c => Cert.KernelIdeal.Run.codesOf (Cert.KernelIdeal.Run.tokens m c),
    fun c => Cert.KernelIdeal.Run.scaleOf (Cert.KernelIdeal.Run.tokens m c), Cert.KernelIdeal.Run.run (F := Ideal) m g, ?_⟩
  refine (θ_run (Cert.ReferenceIdeal.defs (F := Ideal)) _ _).mono (fun r h c => ?_) (Cert.ReferenceIdeal.Run.run (F := Ideal) m' g')
  obtain ⟨hy, hq, hs, hargs⟩ := h c
  obtain ⟨a0, a1, a2, a3, a4⟩ := hagree c
  have hx := tokens_range m hpre c
  have ht : Cert.ReferenceIdeal.Run.tokens m' c = Cert.KernelIdeal.Run.tokens m c := by
    unfold Cert.ReferenceIdeal.Run.tokens Cert.KernelIdeal.Run.tokens
    rw [a0]
  refine ⟨hy.trans ?_, hq.trans ?_, hs.trans ?_, hargs⟩
  · rw [ht, a1, a2, a3, a4]
    funext i
    rw [idx_pair i]
    exact (Cert.ReferenceIdeal.Run.result_apply _ _ _ _ _ _ _).trans (Cert.KernelIdeal.Run.Y_apply m c hx _ _).symm
  · rw [ht]
    funext i
    rw [idx_pair i]
    exact (Cert.ReferenceIdeal.Run.codes_apply _ _ _).trans (Cert.KernelIdeal.Run.codesOf_apply _ hx _ _).symm
  · rw [ht]
    funext i
    rw [idx_pair i]
    exact (Cert.ReferenceIdeal.Run.scales_apply _ _ _).trans (Cert.KernelIdeal.Run.scaleOf_apply _ hx _ _).symm

/-- Everything claimed. -/
theorem claim : Cert.Claim :=
  ⟨Cert.Kernel.Gen.facts, Cert.KernelIdeal.Gen.facts, Cert.ReferenceIdeal.Gen.facts, Cert.Pre_in_bf16_range.Gen.facts,
    Cert.Kernel.Run.frame, fun m g _ => Cert.KernelIdeal.Run.frame m g, fun m g _ => Cert.KernelIdeal.Run.frame m g,
    fun m g _ => Cert.ReferenceIdeal.Gen.frame m g, fun m g _ => Cert.ReferenceIdeal.Gen.frame m g, trivial, algebraic⟩

end Cert.Proof

end
